-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![8, 512, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 512, 768]⟩ ⟨3, ![8, 512, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S8x512x32x64 : S_.BroadcastsInDim S8x512x32x64 (![] : Fin 0 → Fin S8x512x32x64.rank)
  reducesTo_S8x512x32x64_S_d0_1_2_3 : S8x512x32x64.ReducesTo [0, 1, 2, 3] S_

variable [Facts]

def fn {F : FTy → Type} [FloatOps F] (main_arg0 : FVec F S2x512x768 .bf16) (main_arg1 : FVec F S768x512 .bf16) (main_arg2 : FVec F S8x512x32x64 .bf16) (main_arg3 : FVec F S8x512x32x64 .bf16) (main_arg4 : FVec F S512x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S8x512x32x64 .bf16 := Host.absf main_arg2
  let main_cst_2 : FVec F S_ .bf16 := constant S_ .bf16 0x7F80#16
  let main_v10 : FVec F S8x512x32x64 .bf16 := broadcastInDim S8x512x32x64 ![] bcast_S_S8x512x32x64 main_cst_2
  let main_v11 : IVec S8x512x32x64 1 := cmpf .olt main_v9 main_v10
  let main_c_3 : IVec S_ 1 := constantI S_ 1 1#1
  let main_v12 : IVec S_ 1 := (fun x v => Host.reduce IntOp.andi x v reducesTo_S8x512x32x64_S_d0_1_2_3 h_S_) main_v11 main_c_3
  let main_v13 : IVec S_ 1 := andi main_v8 main_v12
  main_v13
-- ==== Pre_finite_ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S8x512x32x64 : S_.BroadcastsInDim S8x512x32x64 (![] : Fin 0 → Fin S8x512x32x64.rank)
  reducesTo_S8x512x32x64_S_d0_1_2_3 : S8x512x32x64.ReducesTo [0, 1, 2, 3] S_

variable [Facts]

def fn {F : FTy → Type} [FloatOps F] (main_arg0 : FVec F S8x512x768 .bf16) (main_arg1 : FVec F S768x2048 .bf16) (main_arg2 : FVec F S8x512x32x64 .bf16) (main_arg3 : FVec F S8x512x32x64 .bf16) (main_arg4 : FVec F S2048x768 .bf16) : IVec S_ 1 :=
  let main_v0 : FVec F S8x512x768 .bf16 := Host.absf main_arg0
  let main_cst : FVec F S_ .bf16 := constant S_ .bf16 0x7F80#16
  let main_v1 : FVec F S8x512x768 .bf16 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S768x2048 .bf16 := Host.absf main_arg1
  let main_cst_0 : FVec F S_ .bf16 := constant S_ .bf16 0x7F80#16
  let main_v5 : FVec F S768x2048 .bf16 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S8x512x32x64 .bf16 := Host.absf main_arg2
  let main_cst_2 : FVec F S_ .bf16 := constant S_ .bf16 0x7F80#16
  let main_v10 : FVec F S8x512x32x64 .bf16 := broadcastInDim S8x512x32x64 ![] bcast_S_S8x512x32x64 main_cst_2
  let main_v11 : IVec S8x512x32x64 1 := cmpf .olt main_v9 main_v10
  let main_c_3 : IVec S_ 1 := constantI S_ 1 1#1
  let main_v12 : IVec S_ 1 := (fun x v => Host.reduce IntOp.andi x v reducesTo_S8x512x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩
abbrev S2x512x32x64 : Shape := ⟨4, ![2, 512, 32, 64]⟩
abbrev S2x32x512x64 : Shape := ⟨4, ![2, 32, 512, 64]⟩
abbrev S2x768x256 : Shape := ⟨3, ![2, 768, 256]⟩
abbrev S2x256x768 : Shape := ⟨3, ![2, 256, 768]⟩
abbrev S512x512 : Shape := ⟨2, ![512, 512]⟩
abbrev S2 : Shape := ⟨1, ![2]⟩
abbrev S768x256 : Shape := ⟨2, ![768, 256]⟩
abbrev S1x768x256 : Shape := ⟨3, ![1, 768, 256]⟩
abbrev S256x768 : Shape := ⟨2, ![256, 768]⟩
abbrev S1x256x768 : Shape := ⟨3, ![1, 256, 768]⟩
abbrev S1 : Shape := ⟨1, ![1]⟩
abbrev S1x512x768 : Shape := ⟨3, ![1, 512, 768]⟩
abbrev S512x256 : Shape := ⟨2, ![512, 256]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩

abbrev nBuf : Space → Nat
  | .hbm => 36
  | .vmem => 12
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S8x512x32x64, .bf16⟩
  | .hbm, ⟨3, _⟩ => ⟨S8x512x32x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x32x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x32x64, .bf16⟩
  | .hbm, ⟨33, _⟩ => ⟨S2x32x512x64, .bf16⟩
  | .hbm, ⟨34, _⟩ => ⟨S2x32x512x64, .bf16⟩
  | .hbm, ⟨35, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x32x512x64, .bf16⟩
  | .local _ .vmem, ⟨3, _⟩ => ⟨S2x32x512x64, .bf16⟩
  | .local _ .vmem, ⟨4, _⟩ => ⟨S512x768, .bf16⟩
  | .local _ .vmem, ⟨5, _⟩ => ⟨S2x512x768, .f32⟩
  | .local _ .vmem, ⟨6, _⟩ => ⟨S2x768x256, .bf16⟩
  | .local _ .vmem, ⟨7, _⟩ => ⟨S2x256x768, .bf16⟩
  | .local _ .vmem, ⟨8, _⟩ => ⟨S2x768x256, .bf16⟩
  | .local _ .vmem, ⟨9, _⟩ => ⟨S2x256x768, .bf16⟩
  | .local _ .vmem, ⟨10, _⟩ => ⟨S512x512, .f32⟩
  | .local _ .vmem, ⟨11, _⟩ => ⟨S512x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_45 : BitVec 32 := 1#32
  let v108 : BitVec 32 := Scalar.muli v5 c1_i32_45
  let v109 : BitVec 32 := Scalar.addi c0_i32_46 v108
  v109.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_48 : BitVec 32 := 1#32
  let v110 : BitVec 32 := Scalar.muli v7 c1_i32_48
  let v111 : BitVec 32 := Scalar.addi c0_i32_49 v110
  v111.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_54 : BitVec 32 := 1#32
  let v112 : BitVec 32 := Scalar.muli v7 c1_i32_54
  let v113 : BitVec 32 := Scalar.addi c0_i32_55 v112
  v113.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_64 : BitVec 32 := 1#32
  let v122 : BitVec 32 := Scalar.muli v7 c1_i32_64
  let v123 : BitVec 32 := Scalar.addi c0_i32_65 v122
  v123.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_74 : BitVec 32 := 1#32
  let v132 : BitVec 32 := Scalar.muli v5 c1_i32_74
  let v133 : BitVec 32 := Scalar.addi c0_i32_75 v132
  v133.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_84 : BitVec 32 := 1#32
  let v142 : BitVec 32 := Scalar.muli v5 c1_i32_84
  let v143 : BitVec 32 := Scalar.addi c0_i32_85 v142
  v143.toNat
def k0_off1 (d0 : Dev nD) (c0_i32_90 : BitVec 32) (c0_i32_103 : BitVec 32) : Fin 4 → Nat :=
  let c0_104 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v152 : BitVec 32 := Scalar.subi v2 c0_i32_90
  let c4_i32_91 : BitVec 32 := 4#32
  let v153 : BitVec 32 := Scalar.addi v152 c4_i32_91
  let c4_i32_92 : BitVec 32 := 4#32
  let v154 : BitVec 32 := Scalar.remsi v153 c4_i32_92
  let c8_i32 : BitVec 32 := 8#32
  let v165 : BitVec 32 := Scalar.muli v154 c8_i32
  let c0_i32_102 : BitVec 32 := 0#32
  let v166 : BitVec 32 := Scalar.addi v165 c0_i32_102
  let v167 : BitVec 32 := Scalar.addi v166 c0_i32_103
  let v169 : Index := Scalar.indexCast v167
  let c0_105 : Index := 0#32
  let c0_106 : Index := 0#32
  ![0, v169.toNat, 0, 0]
def k0_off2 (d0 : Dev nD) (c0_i32_93 : BitVec 32) (c0_i32_182 : BitVec 32) : Fin 4 → Nat :=
  let c0_183 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v155 : BitVec 32 := Scalar.addi v2 c0_i32_93
  let c4_i32_94 : BitVec 32 := 4#32
  let v156 : BitVec 32 := Scalar.remsi v155 c4_i32_94
  let c8_i32_180 : BitVec 32 := 8#32
  let v281 : BitVec 32 := Scalar.muli v156 c8_i32_180
  let c4_i32_181 : BitVec 32 := 4#32
  let v282 : BitVec 32 := Scalar.addi v281 c4_i32_181
  let v283 : BitVec 32 := Scalar.addi v282 c0_i32_182
  let v285 : Index := Scalar.indexCast v283
  let c0_184 : Index := 0#32
  let c0_185 : Index := 0#32
  ![0, v285.toNat, 0, 0]
def k0_off3 (d0 : Dev nD) (c0_i32_90 : BitVec 32) (c0_i32_263 : BitVec 32) : Fin 4 → Nat :=
  let c1_264 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v152 : BitVec 32 := Scalar.subi v2 c0_i32_90
  let c4_i32_91 : BitVec 32 := 4#32
  let v153 : BitVec 32 := Scalar.addi v152 c4_i32_91
  let c4_i32_92 : BitVec 32 := 4#32
  let v154 : BitVec 32 := Scalar.remsi v153 c4_i32_92
  let c8_i32_261 : BitVec 32 := 8#32
  let v401 : BitVec 32 := Scalar.muli v154 c8_i32_261
  let c0_i32_262 : BitVec 32 := 0#32
  let v402 : BitVec 32 := Scalar.addi v401 c0_i32_262
  let v403 : BitVec 32 := Scalar.addi v402 c0_i32_263
  let v405 : Index := Scalar.indexCast v403
  let c0_265 : Index := 0#32
  let c0_266 : Index := 0#32
  ![1, v405.toNat, 0, 0]
def k0_off4 (d0 : Dev nD) (c0_i32_93 : BitVec 32) (c0_i32_345 : BitVec 32) : Fin 4 → Nat :=
  let c1_346 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v155 : BitVec 32 := Scalar.addi v2 c0_i32_93
  let c4_i32_94 : BitVec 32 := 4#32
  let v156 : BitVec 32 := Scalar.remsi v155 c4_i32_94
  let c8_i32_343 : BitVec 32 := 8#32
  let v517 : BitVec 32 := Scalar.muli v156 c8_i32_343
  let c4_i32_344 : BitVec 32 := 4#32
  let v518 : BitVec 32 := Scalar.addi v517 c4_i32_344
  let v519 : BitVec 32 := Scalar.addi v518 c0_i32_345
  let v521 : Index := Scalar.indexCast v519
  let c0_347 : Index := 0#32
  let c0_348 : Index := 0#32
  ![1, v521.toNat, 0, 0]
def k0_dev7 (d0 : Dev nD) : Nat :=
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_497 : BitVec 32 := 1#32
  let v686 : BitVec 32 := Scalar.muli v5 c1_i32_497
  let v687 : BitVec 32 := Scalar.addi c0_i32_498 v686
  v687.toNat
def k0_dev8 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_500 : BitVec 32 := 1#32
  let v688 : BitVec 32 := Scalar.muli v7 c1_i32_500
  let v689 : BitVec 32 := Scalar.addi c0_i32_501 v688
  v689.toNat
def k0_dev9 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_508 : BitVec 32 := 1#32
  let v690 : BitVec 32 := Scalar.muli v7 c1_i32_508
  let v691 : BitVec 32 := Scalar.addi c0_i32_509 v690
  v691.toNat
def k0_dev10 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_518 : BitVec 32 := 1#32
  let v700 : BitVec 32 := Scalar.muli v7 c1_i32_518
  let v701 : BitVec 32 := Scalar.addi c0_i32_519 v700
  v701.toNat
def k0_dev11 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_528 : BitVec 32 := 1#32
  let v710 : BitVec 32 := Scalar.muli v5 c1_i32_528
  let v711 : BitVec 32 := Scalar.addi c0_i32_529 v710
  v711.toNat
def k0_dev12 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_538 : BitVec 32 := 1#32
  let v720 : BitVec 32 := Scalar.muli v5 c1_i32_538
  let v721 : BitVec 32 := Scalar.addi c0_i32_539 v720
  v721.toNat
def k0_dev13 (d0 : Dev nD) : Nat :=
  let c0_i32_967 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_966 : BitVec 32 := 1#32
  let v1270 : BitVec 32 := Scalar.muli v5 c1_i32_966
  let v1271 : BitVec 32 := Scalar.addi c0_i32_967 v1270
  v1271.toNat
def k0_dev14 (d0 : Dev nD) : Nat :=
  let c0_i32_970 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_969 : BitVec 32 := 1#32
  let v1272 : BitVec 32 := Scalar.muli v7 c1_i32_969
  let v1273 : BitVec 32 := Scalar.addi c0_i32_970 v1272
  v1273.toNat
def k0_dev15 (d0 : Dev nD) : Nat :=
  let c0_i32_978 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_977 : BitVec 32 := 1#32
  let v1274 : BitVec 32 := Scalar.muli v7 c1_i32_977
  let v1275 : BitVec 32 := Scalar.addi c0_i32_978 v1274
  v1275.toNat
def k0_dev16 (d0 : Dev nD) : Nat :=
  let c0_i32_988 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_987 : BitVec 32 := 1#32
  let v1284 : BitVec 32 := Scalar.muli v7 c1_i32_987
  let v1285 : BitVec 32 := Scalar.addi c0_i32_988 v1284
  v1285.toNat
def k0_dev17 (d0 : Dev nD) : Nat :=
  let c0_i32_998 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_997 : BitVec 32 := 1#32
  let v1294 : BitVec 32 := Scalar.muli v5 c1_i32_997
  let v1295 : BitVec 32 := Scalar.addi c0_i32_998 v1294
  v1295.toNat
def k0_dev18 (d0 : Dev nD) : Nat :=
  let c0_i32_1008 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1007 : BitVec 32 := 1#32
  let v1304 : BitVec 32 := Scalar.muli v5 c1_i32_1007
  let v1305 : BitVec 32 := Scalar.addi c0_i32_1008 v1304
  v1305.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S8x512x2048 : Shape := ⟨3, ![8, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S8x32x512x512 : Shape := ⟨4, ![8, 32, 512, 512]⟩
abbrev S1x1x512x512 : Shape := ⟨4, ![1, 1, 512, 512]⟩
abbrev S8x32x512 : Shape := ⟨3, ![8, 32, 512]⟩
abbrev S8x32x512x1 : Shape := ⟨4, ![8, 32, 512, 1]⟩
abbrev S1x1x512x1 : Shape := ⟨4, ![1, 1, 512, 1]⟩
abbrev S8x32x64x512 : Shape := ⟨4, ![8, 32, 64, 512]⟩

abbrev nBuf : Space → Nat
  | .hbm => 128
  | .vmem => 0
  | .smem => 0
  | _ => 0

abbrev bufTy : (tb : Table) → Fin (tcTables nBuf tb) → BufTy
  | .hbm, ⟨0, _⟩ => ⟨S8x512x768, .bf16⟩
  | .hbm, ⟨1, _⟩ => ⟨S768x2048, .bf16⟩
  | .hbm, ⟨2, _⟩ => ⟨S8x512x32x64, .bf16⟩
  | .hbm, ⟨3, _⟩ => ⟨S8x512x32x64, .bf16⟩
  | .hbm, ⟨4, _⟩ => ⟨S2048x768, .bf16⟩
  | .hbm, ⟨5, _⟩ => ⟨S8x512x768, .f32⟩
  | .hbm, ⟨6, _⟩ => ⟨S768x2048, .f32⟩
  | .hbm, ⟨7, _⟩ => ⟨S8x512x32x64, .f32⟩
  | .hbm, ⟨8, _⟩ => ⟨S8x512x32x64, .f32⟩
  | .hbm, ⟨9, _⟩ => ⟨S2048x768, .f32⟩
  | .hbm, ⟨10, _⟩ => ⟨S8x512x2048, .f32⟩
  | .hbm, ⟨11, _⟩ => ⟨S8x512x32x64, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512, .i32⟩
  | .hbm, ⟨33, _⟩ => ⟨S_, .i32⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S_, .i32⟩
  | .hbm, ⟨56, _⟩ => ⟨S1x512, .i32⟩
  | .hbm, ⟨57, _⟩ => ⟨S1x512, .i1⟩
  | .hbm, ⟨58, _⟩ => ⟨S512x512, .i1⟩
  | .hbm, ⟨59, _⟩ => ⟨S512x512, .i1⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S512x512, .i32⟩
  | .hbm, ⟨70, _⟩ => ⟨S512x512, .i32⟩
  | .hbm, ⟨71, _⟩ => ⟨S_, .i32⟩
  | .hbm, ⟨72, _⟩ => ⟨S512x512, .i32⟩
  | .hbm, ⟨73, _⟩ => ⟨S512x512, .i1⟩
  | .hbm, ⟨74, _⟩ => ⟨S_, .i32⟩
  | .hbm, ⟨75, _⟩ => ⟨S512x512, .i32⟩
  | .hbm, ⟨76, _⟩ => ⟨S512x512, .i1⟩
  | .hbm, ⟨77, _⟩ => ⟨S_, .i32⟩
  | .hbm, ⟨78, _⟩ => ⟨S_, .i1⟩
  | .hbm, ⟨79, _⟩ => ⟨S512x512, .i1⟩
  | .hbm, ⟨80, _⟩ => ⟨S512x512, .i1⟩
  | .hbm, ⟨81, _⟩ => ⟨S512x512, .i1⟩
  | .hbm, ⟨82, _⟩ => ⟨S512x512, .i32⟩
  | .hbm, ⟨83, _⟩ => ⟨S512x512, .i32⟩
  | .hbm, ⟨84, _⟩ => ⟨S512x512, .i32⟩
  | .hbm, ⟨85, _⟩ => ⟨S_, .i32⟩
  | .hbm, ⟨86, _⟩ => ⟨S512x512, .i32⟩
  | .hbm, ⟨87, _⟩ => ⟨S512x512, .i1⟩
  | .hbm, ⟨88, _⟩ => ⟨S512x512, .i1⟩
  | .hbm, ⟨89, _⟩ => ⟨S8x32x512x512, .f32⟩
  | .hbm, ⟨90, _⟩ => ⟨S_, .f32⟩
  | .hbm, ⟨91, _⟩ => ⟨S8x32x512x512, .f32⟩
  | .hbm, ⟨92, _⟩ => ⟨S8x32x512x512, .f32⟩
  | .hbm, ⟨93, _⟩ => ⟨S1x1x512x512, .i1⟩
  | .hbm, ⟨94, _⟩ => ⟨S_, .f32⟩
  | .hbm, ⟨95, _⟩ => ⟨S_, .f32⟩
  | .hbm, ⟨96, _⟩ => ⟨S8x32x512x512, .i1⟩
  | .hbm, ⟨97, _⟩ => ⟨S8x32x512x512, .f32⟩
  | .hbm, ⟨98, _⟩ => ⟨S8x32x512x512, .f32⟩
  | .hbm, ⟨99, _⟩ => ⟨S_, .f32⟩
  | .hbm, ⟨100, _⟩ => ⟨S8x32x512, .f32⟩
  | .hbm, ⟨101, _⟩ => ⟨S8x32x512x1, .f32⟩
  | .hbm, ⟨102, _⟩ => ⟨S8x32x512x512, .f32⟩
  | .hbm, ⟨103, _⟩ => ⟨S8x32x512x512, .f32⟩
  | .hbm, ⟨104, _⟩ => ⟨S8x32x512x512, .f32⟩
  | .hbm, ⟨105, _⟩ => ⟨S_, .i1⟩
  | .hbm, ⟨106, _⟩ => ⟨S512, .i1⟩
  | .hbm, ⟨107, _⟩ => ⟨S1x1x512x1, .i1⟩
  | .hbm, ⟨108, _⟩ => ⟨S_, .f32⟩
  | .hbm, ⟨109, _⟩ => ⟨S8x32x512, .f32⟩
  | .hbm, ⟨110, _⟩ => ⟨S8x32x512x1, .f32⟩
  | .hbm, ⟨111, _⟩ => ⟨S_, .f32⟩
  | .hbm, ⟨112, _⟩ => ⟨S_, .f32⟩
  | .hbm, ⟨113, _⟩ => ⟨S8x32x512x1, .i1⟩
  | .hbm, ⟨114, _⟩ => ⟨S8x32x512x1, .f32⟩
  | .hbm, ⟨115, _⟩ => ⟨S8x32x512x1, .f32⟩
  | .hbm, ⟨116, _⟩ => ⟨S8x32x512x512, .f32⟩
  | .hbm, ⟨117, _⟩ => ⟨S8x32x512x512, .f32⟩
  | .hbm, ⟨118, _⟩ => ⟨S1x1x512x1, .i1⟩
  | .hbm, ⟨119, _⟩ => ⟨S_, .f32⟩
  | .hbm, ⟨120, _⟩ => ⟨S_, .f32⟩
  | .hbm, ⟨121, _⟩ => ⟨S8x32x512x512, .i1⟩
  | .hbm, ⟨122, _⟩ => ⟨S8x32x512x512, .f32⟩
  | .hbm, ⟨123, _⟩ => ⟨S8x32x512x512, .f32⟩
  | .hbm, ⟨124, _⟩ => ⟨S8x32x64x512, .f32⟩
  | .hbm, ⟨125, _⟩ => ⟨S8x512x32x64, .f32⟩
  | .hbm, ⟨126, _⟩ => ⟨S8x512x2048, .f32⟩
  | .hbm, ⟨127, _⟩ => ⟨S8x512x768, .f32⟩
  | _, _ => ⟨S8x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Prog.lean ====
module

public import proofs.«01_k».proof.Proof.Gen.Kernel
public import proofs.«01_k».proof.Proof.Gen.Kernel.Launch
public import proofs.«01_k».proof.Proof.Gen.Kernel.Points
public import proofs.«01_k».proof.Proof.Gen.Kernel.Regions
public import proofs.«01_k».proof.Proof.Gen.Kernel.Skeleton
public import Idealize.ShloMosaic.Lib.Pipeline.Regions

@[expose] public section

/-! # The body, written once per repeated piece

The printed body is the unrolled text of four hops, each computing two batches from two halves of the
circulating weights, each half four heads. Here that text is written as nested pieces, and the printed
body is shown to be exactly this text. -/

noncomputable section

namespace Cert.Kernel.Gen

open Idealize.ShloMosaic Idealize.ShloMosaic.TcCoe Idealize.SL.Sem

variable {F : FTy → Type} [FloatOps F]

/-- Programs of a TensorCore of this kernel. -/
abbrev TcProg (F : FTy → Type) [FloatOps F] (α : Type) : Type 1 := Prog (TpuEff nD τ sig (Elt F) Λ₀ .tc) α

/-! ## The buffers -/

abbrev xM : Memref sig .tc .vmem S2x512x768 .bf16 := Memref.whole cc0_stg0_0
abbrev wqM : Memref sig .tc .vmem S768x512 .bf16 := Memref.whole cc0_stg1_0
abbrev kM : Memref sig .tc .vmem S2x32x512x64 .bf16 := Memref.whole cc0_stg2_0
abbrev vM : Memref sig .tc .vmem S2x32x512x64 .bf16 := Memref.whole cc0_stg3_0
abbrev woM : Memref sig .tc .vmem S512x768 .bf16 := Memref.whole cc0_stg4_0
abbrev outM : Memref sig .tc .vmem S2x512x768 .f32 := Memref.whole cc0_stg5_0
abbrev maskM : Memref sig .tc .vmem S512x512 .f32 := Memref.whole cc0_scratch4
abbrev ctxM : Memref sig .tc .vmem S512x512 .bf16 := Memref.whole cc0_scratch5

/-- The two circulating halves of the query projection: half 0 travels to the right, half 1 to the left. -/
abbrev qBuf (sd : Fin 2) : Memref sig .tc .vmem S2x768x256 .bf16 :=
  match sd with
  | 0 => Memref.whole cc0_scratch0
  | 1 => Memref.whole cc0_scratch2
/-- The two circulating halves of the output projection. -/
abbrev oBuf (sd : Fin 2) : Memref sig .tc .vmem S2x256x768 .bf16 :=
  match sd with
  | 0 => Memref.whole cc0_scratch1
  | 1 => Memref.whole cc0_scratch3

/-- The semaphore counting a query half sent from a slot, and the one counting an arrival in a slot. -/
abbrev qSend (sd s : Fin 2) : DmaSem sig := ⟨6 + 8 * sd.val + s.val, by revert sd s; decide⟩
abbrev qRecv (sd s : Fin 2) : DmaSem sig := ⟨8 + 8 * sd.val + s.val, by revert sd s; decide⟩
abbrev oSend (sd s : Fin 2) : DmaSem sig := ⟨10 + 8 * sd.val + s.val, by revert sd s; decide⟩
abbrev oRecv (sd s : Fin 2) : DmaSem sig := ⟨12 + 8 * sd.val + s.val, by revert sd s; decide⟩
abbrev barSem : Sem sig := sig.barrier 0 rfl

/-! ## Slots -/

theorem inbQ : ∀ (s : Fin 2) (a), (![s.val, 0, 0] : Fin 3 → ℕ) a + S1x768x256.size a ≤ S2x768x256.size a := by decide
theorem inbO : ∀ (s : Fin 2) (a), (![s.val, 0, 0] : Fin 3 → ℕ) a + S1x256x768.size a ≤ S2x256x768.size a := by decide
theorem inbX : ∀ (b : Fin 2) (a), (![b.val, 0, 0] : Fin 3 → ℕ) a + S1x512x768.size a ≤ S2x512x768.size a := by decide
theorem inbC : ∀ (k : Fin 8) (a), (![0, 64 * k.val] : Fin 2 → ℕ) a + S512x64.size a ≤ S512x512.size a := by decide
theorem inbH : ∀ (sd : Fin 2) (a), (![0, 256 * sd.val] : Fin 2 → ℕ) a + S512x256.size a ≤ S512x512.size a := by decide
theorem inbWq : ∀ (sd : Fin 2) (a), (![0, 256 * sd.val] : Fin 2 → ℕ) a + S768x256.size a ≤ S768x512.size a := by decide
theorem inbWo : ∀ (sd : Fin 2) (a), (![256 * sd.val, 0] : Fin 2 → ℕ) a + S256x768.size a ≤ S512x768.size a := by decide

/-- Slot `s` of a query half, as a rectangle. -/
abbrev qRect (s : Fin 2) : Rect S2x768x256 := Rect.unit (s := S2x768x256) ![s.val, 0, 0] S1x768x256.size (inbQ s)
abbrev oRect (s : Fin 2) : Rect S2x256x768 := Rect.unit (s := S2x256x768) ![s.val, 0, 0] S1x256x768.size (inbO s)
abbrev xRect (b : Fin 2) : Rect S2x512x768 := Rect.unit (s := S2x512x768) ![b.val, 0, 0] S1x512x768.size (inbX b)
abbrev cRect (k : Fin 8) : Rect S512x512 := Rect.unit (s := S512x512) ![0, 64 * k.val] S512x64.size (inbC k)
abbrev hRect (sd : Fin 2) : Rect S512x512 := Rect.unit (s := S512x512) ![0, 256 * sd.val] S512x256.size (inbH sd)
abbrev wqRect (sd : Fin 2) : Rect S768x512 := Rect.unit (s := S768x512) ![0, 256 * sd.val] S768x256.size (inbWq sd)
abbrev woRect (sd : Fin 2) : Rect S512x768 := Rect.unit (s := S512x768) ![256 * sd.val, 0] S256x768.size (inbWo sd)
abbrev mRect : Rect S512x512 := Rect.unit (s := S512x512) ![0, 0] S512x512.size inb_S512x512_S512x512_0_0

abbrev qSlot (sd s : Fin 2) : Memref sig .tc .vmem S768x256 .bf16 :=
  ((qBuf sd).slice (qRect s) (fun _ => rfl)).squeeze S768x256 squeezes_S1x768x256_S768x256
abbrev oSlot (sd s : Fin 2) : Memref sig .tc .vmem S256x768 .bf16 :=
  ((oBuf sd).slice (oRect s) (fun _ => rfl)).squeeze S256x768 squeezes_S1x256x768_S256x768

theorem qBuf_whole : ∀ sd, (qBuf sd).IsWhole := fun | 0 => Memref.isWhole_whole _ | 1 => Memref.isWhole_whole _
theorem oBuf_whole : ∀ sd, (oBuf sd).IsWhole := fun | 0 => Memref.isWhole_whole _ | 1 => Memref.isWhole_whole _

theorem qSlot_words (sd s : Fin 2) : (qSlot sd s).view.WordExact :=
  match s with
  | 0 => ((qBuf_whole sd).wordExact_slice rfl _ wordsbf16_S2x768x256_S1x768x256_0_0_0).reshape _ _
  | 1 => ((qBuf_whole sd).wordExact_slice rfl _ wordsbf16_S2x768x256_S1x768x256_1_0_0).reshape _ _
theorem oSlot_words (sd s : Fin 2) : (oSlot sd s).view.WordExact :=
  match s with
  | 0 => ((oBuf_whole sd).wordExact_slice rfl _ wordsbf16_S2x256x768_S1x256x768_0_0_0).reshape _ _
  | 1 => ((oBuf_whole sd).wordExact_slice rfl _ wordsbf16_S2x256x768_S1x256x768_1_0_0).reshape _ _

theorem cPacked (k : Fin 8) : (cRect k).PackedRows (EltTy.packing .bf16) :=
  match k with
  | 0 => packedbf16_S512x512_S512x64_0_0
  | 1 => packedbf16_S512x512_S512x64_0_64
  | 2 => packedbf16_S512x512_S512x64_0_128
  | 3 => packedbf16_S512x512_S512x64_0_192
  | 4 => packedbf16_S512x512_S512x64_0_256
  | 5 => packedbf16_S512x512_S512x64_0_320
  | 6 => packedbf16_S512x512_S512x64_0_384
  | 7 => packedbf16_S512x512_S512x64_0_448

theorem qSlices : ∀ h : Fin 4, S512x256.Slices ![0, 64 * h.val] S512x64
  | 0 => slices_S512x256_o0_0_S512x64
  | 1 => slices_S512x256_o0_64_S512x64
  | 2 => slices_S512x256_o0_128_S512x64
  | 3 => slices_S512x256_o0_192_S512x64

/-- Where the keys of head `hh` of this hop's half start: by batch and by half. -/
abbrev kOff (b sd : Fin 2) (c : Dev nD) (hop hh : Fin 4) : Fin 4 → ℕ :=
  match b, sd with
  | 0, 0 => k0_off1 c (BitVec.ofNat 32 hop.val) (BitVec.ofNat 32 hh.val)
  | 0, 1 => k0_off2 c (BitVec.ofNat 32 hop.val) (BitVec.ofNat 32 hh.val)
  | 1, 0 => k0_off3 c (BitVec.ofNat 32 hop.val) (BitVec.ofNat 32 hh.val)
  | 1, 1 => k0_off4 c (BitVec.ofNat 32 hop.val) (BitVec.ofNat 32 hh.val)

theorem kOff_inb (b sd : Fin 2) (c : Dev nD) (hop hh : Fin 4) (a) :
    kOff b sd c hop hh a + S1x1x512x64.size a ≤ S2x32x512x64.size a :=
  match b, sd with
  | 0, 0 => k0_off1_inb c hop hh a
  | 0, 1 => k0_off2_inb c hop hh a
  | 1, 0 => k0_off3_inb c hop hh a
  | 1, 1 => k0_off4_inb c hop hh a

abbrev kRect (b sd : Fin 2) (c : Dev nD) (hop hh : Fin 4) : Rect S2x32x512x64 :=
  Rect.unit (s := S2x32x512x64) (kOff b sd c hop hh) S1x1x512x64.size (kOff_inb b sd c hop hh)

/-! ## The values -/

/-- The scaled queries of one half, four heads side by side. -/
def qgOf (x : Vec F S1x512x768 .bf16) (w : Vec F S1x768x256 .bf16) : FVec F S512x256 .bf16 :=
  truncf .bf16 (mulf (matmul dot_S512x768_S768x256_S512x256_1_0_0_1_n_n none
      (shapeCast S512x768 x shapeCasts_S1x512x768_S512x768)
      (shapeCast S768x256 w shapeCasts_S1x768x256_S768x256)
      (constant S512x256 .f32 0x00000000#32))
    (broadcast S512x256 (Scalar.ofBits .f32 0x3E000000#32))) bitsLt_bf16_f32

/-- The masked exponentials of one head's scores. -/
def expOf (hh : Fin 4) (qg : FVec F S512x256 .bf16) (k : Vec F S1x1x512x64 .bf16) (m : Vec F S512x512 .f32) :
    FVec F S512x512 .f32 :=
  mulf (exp (matmul dot_S512x64_S512x64_S512x512_1_1_0_0_n_n none
      (extractStridedSlice S512x64 ![0, 64 * hh.val] qg (qSlices hh))
      (shapeCast S512x64 k shapeCasts_S1x1x512x64_S512x64)
      (constant S512x512 .f32 0x00000000#32))) m

/-- One head's normalised context. -/
def headOf (hh : Fin 4) (qg : FVec F S512x256 .bf16) (k v : Vec F S1x1x512x64 .bf16) (m : Vec F S512x512 .f32) :
    FVec F S512x64 .bf16 :=
  shapeCast S512x64 (truncf .bf16 (mulf
    (matmul dot_S512x512_S512x64_S512x64_1_0_0_1_n_n none (truncf .bf16 (expOf hh qg k m) bitsLt_bf16_f32)
      (shapeCast S512x64 v shapeCasts_S1x1x512x64_S512x64)
      (constant S512x64 .f32 0x00000000#32))
    (broadcastTo S512x64 (divf (broadcast S512x1 (Scalar.ofBits .f32 0x3F800000#32))
      (shapeCast S512x1 (multiReduction .add [1] S512 (expOf hh qg k m) 0x00000000#32 reduces_S512x512_S512 (.inl rfl) rfl)
        shapeCasts_S512_S512x1)) broadcasts_S512x1_S512x64)) bitsLt_bf16_f32) shapeCasts_S512x64_S512x64

/-- One half's contribution to the result. -/
def partOf (cx : Vec F S512x256 .bf16) (w : Vec F S1x256x768 .bf16) : FVec F S512x768 .f32 :=
  matmul dot_S512x256_S256x768_S512x768_1_0_0_1_n_n none cx
    (shapeCast S256x768 w shapeCasts_S1x256x768_S256x768) (constant S512x768 .f32 0x00000000#32)

/-- The first hop's store, and a later hop's. -/
def firstOf (pA pB : FVec F S512x768 .f32) : FVec F S1x512x768 .f32 :=
  shapeCast S1x512x768 (addf pA pB) shapeCasts_S512x768_S1x512x768
def nextOf (old : Vec F S1x512x768 .f32) (pA pB : FVec F S512x768 .f32) : FVec F S1x512x768 .f32 :=
  shapeCast S1x512x768 (addf (shapeCast S512x768 old shapeCasts_S1x512x768_S512x768) (addf pA pB))
    shapeCasts_S512x768_S1x512x768

/-- The block-sparse mask. -/
def maskOf : FVec F S512x512 .f32 :=
  k0_pay6 (F := F) k0_pay2 (iota .tc S512x512 32 [1] iota_S512x512_d1_w32) 64#32 k0_pay3 k0_pay4 k0_pay5

/-! ## The pieces -/

/-- One head: keys, values, mask, (an unread load) and the store of its context. -/
def headP (b sd : Fin 2) (c : Dev nD) (hop hh : Fin 4) (k8 : Fin 8) (qg : FVec F S512x256 .bf16) : TcProg F PUnit := do
  let k : Vec F S1x1x512x64 .bf16 ← Prog.lift (.load kM (kRect b sd c hop hh).toLoadRect (View.loadsAt_vmem h_S1x1x512x64))
  let v : Vec F S1x1x512x64 .bf16 ← Prog.lift (.load vM (kRect b sd c hop hh).toLoadRect (View.loadsAt_vmem h_S1x1x512x64))
  let m : Vec F S512x512 .f32 ← Prog.lift (.load maskM mRect.toLoadRect (View.loadsAt_vmem h_S512x512))
  let _o : Vec F S512x64 .bf16 ← Prog.lift (.load ctxM (cRect k8).toLoadRect (View.loadsAt_vmem h_S512x64))
  Prog.lift (.store ctxM (cRect k8) (headOf hh qg k v m) Finset.univ
    (View.stores_vmem h_S512x64 ((Memref.isWhole_whole _).storeExact_slice rfl _ (cPacked k8)) (fun _ => rfl)) (.inl rfl))

/-- One half of one batch: its queries, its four heads, its contribution. -/
def halfP (b sd s : Fin 2) (c : Dev nD) (hop : Fin 4) : TcProg F (FVec F S512x768 .f32) := do
  let x : Vec F S1x512x768 .bf16 ← Prog.lift (.load xM (xRect b).toLoadRect (View.loadsAt_vmem h_S1x512x768))
  let w : Vec F S1x768x256 .bf16 ← Prog.lift (.load (qBuf sd) (qRect s).toLoadRect (View.loadsAt_vmem h_S1x768x256))
  headP b sd c hop 0 ⟨4 * sd.val + 0, by omega⟩ (qgOf x w)
  headP b sd c hop 1 ⟨4 * sd.val + 1, by omega⟩ (qgOf x w)
  headP b sd c hop 2 ⟨4 * sd.val + 2, by omega⟩ (qgOf x w)
  headP b sd c hop 3 ⟨4 * sd.val + 3, by omega⟩ (qgOf x w)
  let cx : Vec F S512x256 .bf16 ← Prog.lift (.load ctxM (hRect sd).toLoadRect (View.loadsAt_vmem h_S512x256))
  let wo : Vec F S1x256x768 .bf16 ← Prog.lift (.load (oBuf sd) (oRect s).toLoadRect (View.loadsAt_vmem h_S1x256x768))
  pure (partOf cx wo)

/-- Store a batch's sum: the first hop overwrites, a later one adds to what it finds. -/
def storeP (first : Bool) (b : Fin 2) (pA pB : FVec F S512x768 .f32) : TcProg F PUnit :=
  match first with
  | true => do
    let _o : Vec F S1x512x768 .f32 ← Prog.lift (.load outM (xRect b).toLoadRect (View.loadsAt_vmem h_S1x512x768))
    Prog.lift (.store outM (xRect b) (firstOf pA pB) Finset.univ
      (View.stores_vmem_bits_univ h_S1x512x768 rfl) (.inl rfl))
  | false => do
    let old : Vec F S1x512x768 .f32 ← Prog.lift (.load outM (xRect b).toLoadRect (View.loadsAt_vmem h_S1x512x768))
    let _o : Vec F S1x512x768 .f32 ← Prog.lift (.load outM (xRect b).toLoadRect (View.loadsAt_vmem h_S1x512x768))
    Prog.lift (.store outM (xRect b) (nextOf old pA pB) Finset.univ
      (View.stores_vmem_bits_univ h_S1x512x768 rfl) (.inl rfl))

/-- One batch of a hop. -/
def batchP (first : Bool) (b s : Fin 2) (c : Dev nD) (hop : Fin 4) : TcProg F PUnit := do
  let pA ← halfP b 0 s c hop
  let pB ← halfP b 1 s c hop
  storeP first b pA pB

/-- The compute of a hop from slot `s`. -/
def computeP (first : Bool) (s : Fin 2) (c : Dev nD) (hop : Fin 4) : TcProg F PUnit := do
  batchP first 0 s c hop
  batchP first 1 s c hop

/-- The hand-shake with both neighbours. -/
def meetP (l r : Dev nD) : TcProg F PUnit := do
  semSignalWord l barSem 1#32
  semSignalWord r barSem 1#32
  semWaitWord barSem 2#32

/-- Start the copy of one half's two slots to the device `d`: from slot `s` into slot `r`. -/
def sendP (sd s r : Fin 2) (d d' : Dev nD) : TcProg F PUnit := do
  Prog.lift (.enqueueDma (qSlot sd s) (.remote (Dev.tc d) (qSlot sd r) (.dma (qSend sd s))) (.dma (qRecv sd r))
    (qSlot_words sd s) (qSlot_words sd r) ⟨⟨rfl, Or.inl rfl⟩, trivial⟩)
  Prog.lift (.enqueueDma (oSlot sd s) (.remote (Dev.tc d') (oSlot sd r) (.dma (oSend sd s))) (.dma (oRecv sd r))
    (oSlot_words sd s) (oSlot_words sd r) ⟨⟨rfl, Or.inl rfl⟩, trivial⟩)

/-- Wait for one half's two copies to have left slot `s` and for the neighbour's to have landed in slot `r`. -/
def awaitP (sd s r : Fin 2) : TcProg F PUnit := do
  Prog.lift (.waitDma2 (qSend sd s) (qSlot sd r) (qSlot sd s) (qSlot_words sd r) (qSlot_words sd s))
  Prog.lift (.waitDma2 (qRecv sd r) (qSlot sd s) (qSlot sd r) (qSlot_words sd s) (qSlot_words sd r))
  Prog.lift (.waitDma2 (oSend sd s) (oSlot sd r) (oSlot sd s) (oSlot_words sd r) (oSlot_words sd s))
  Prog.lift (.waitDma2 (oRecv sd r) (oSlot sd s) (oSlot sd r) (oSlot_words sd s) (oSlot_words sd r))

/-- The mask, and the device's own weights into slot 0. -/
def setupP : TcProg F PUnit := do
  let _m : Vec F S512x512 .f32 ← Prog.lift (.load maskM mRect.toLoadRect (View.loadsAt_vmem h_S512x512))
  Prog.lift (.store maskM mRect (maskOf (F := F)) Finset.univ (View.stores_vmem_bits_univ h_S512x512 rfl) (.inl rfl))

/-- A slot's contents from one half of the device's own weights. -/
def qFill (w : Vec F S768x256 .bf16) : FVec F S1x768x256 .bf16 :=
  shapeCast S1x768x256 (shapeCast S768x256 w shapeCasts_S768x256_S768x256) shapeCasts_S768x256_S1x768x256
def oFill (w : Vec F S256x768 .bf16) : FVec F S1x256x768 .bf16 :=
  shapeCast S1x256x768 (shapeCast S256x768 w shapeCasts_S256x768_S256x768) shapeCasts_S256x768_S1x256x768

/-- One half of the device's own query weights into slot 0. -/
def fillQ (sd : Fin 2) : TcProg F PUnit := do
  let w : Vec F S768x256 .bf16 ← Prog.lift (.load wqM (wqRect sd).toLoadRect (View.loadsAt_vmem h_S768x256))
  let _o : Vec F S1x768x256 .bf16 ← Prog.lift (.load (qBuf sd) (qRect 0).toLoadRect (View.loadsAt_vmem h_S1x768x256))
  Prog.lift (.store (qBuf sd) (qRect 0) (qFill w) Finset.univ
    (View.stores_vmem h_S1x768x256 ((qBuf_whole sd).storeExact_slice rfl _ packedbf16_S2x768x256_S1x768x256_0_0_0) (fun _ => rfl)) (.inl rfl))
def fillO (sd : Fin 2) : TcProg F PUnit := do
  let w : Vec F S256x768 .bf16 ← Prog.lift (.load woM (woRect sd).toLoadRect (View.loadsAt_vmem h_S256x768))
  let _o : Vec F S1x256x768 .bf16 ← Prog.lift (.load (oBuf sd) (oRect 0).toLoadRect (View.loadsAt_vmem h_S1x256x768))
  Prog.lift (.store (oBuf sd) (oRect 0) (oFill w) Finset.univ
    (View.stores_vmem h_S1x256x768 ((oBuf_whole sd).storeExact_slice rfl _ packedbf16_S2x256x768_S1x256x768_0_0_0) (fun _ => rfl)) (.inl rfl))

/-- One hop that passes the weights on: the two neighbours, then the four destinations as the text names them. -/
def hopP (first : Bool) (s r : Fin 2) (c : Dev nD) (hop : Fin 4) (dl dr d1 d2 d3 d4 : Dev nD) : TcProg F PUnit := do
  meetP dl dr
  sendP 0 s r d1 d2
  sendP 1 s r d3 d4
  computeP first s c hop
  awaitP 0 s r
  awaitP 1 s r

/-- The whole body. -/
def bodyP : TcProg F PUnit := do
  let c : Dev nD ← Prog.lift .deviceId
  setupP
  fillQ 0
  fillQ 1
  fillO 0
  fillO 1
  hopP true 0 1 c 0 ⟨k0_dev1 c, k0_dev1_lt c⟩ ⟨k0_dev2 c, k0_dev2_lt c⟩ ⟨k0_dev3 c, k0_dev3_lt c⟩
    ⟨k0_dev4 c, k0_dev4_lt c⟩ ⟨k0_dev5 c, k0_dev5_lt c⟩ ⟨k0_dev6 c, k0_dev6_lt c⟩
  hopP false 1 0 c 1 ⟨k0_dev7 c, k0_dev7_lt c⟩ ⟨k0_dev8 c, k0_dev8_lt c⟩ ⟨k0_dev9 c, k0_dev9_lt c⟩
    ⟨k0_dev10 c, k0_dev10_lt c⟩ ⟨k0_dev11 c, k0_dev11_lt c⟩ ⟨k0_dev12 c, k0_dev12_lt c⟩
  hopP false 0 1 c 2 ⟨k0_dev13 c, k0_dev13_lt c⟩ ⟨k0_dev14 c, k0_dev14_lt c⟩ ⟨k0_dev15 c, k0_dev15_lt c⟩
    ⟨k0_dev16 c, k0_dev16_lt c⟩ ⟨k0_dev17 c, k0_dev17_lt c⟩ ⟨k0_dev18 c, k0_dev18_lt c⟩
  computeP false 1 c 3

set_option maxRecDepth 65536 in
/-- The printed body is this text. -/
theorem body_eq : bodyAt0 (F := F) t0_0 = bodyP (F := F) := by chain_rfl

end Cert.Kernel.Gen
-- ==== Proof.Values.lean ====
module

public import proofs.«01_k».proof.Proof.Prog
public import Idealize.ShloMosaic.Lib.ValueIdxCore

@[expose] public section

/-! # What each piece of the body computes

The contents of every buffer as functions of what the windows staged on all four devices: which device's
shard a slot holds at a hop, each head's context, each half's contribution, and the running sum. -/

noncomputable section

namespace Cert.Kernel.Gen

open Idealize.ShloMosaic Idealize.ShloMosaic.TcCoe Idealize.SL.Sem Idealize.ShloMosaic.ValueIdx

variable {F : FTy → Type} [FloatOps F]

/-! ## The ring -/

/-- The device the half `sd` is sent to: half 0 to the right, half 1 to the left. -/
def nxt (sd : Fin 2) (c : Dev nD) : Dev nD :=
  match sd with
  | 0 => ⟨(c.val + 1) % 4, Nat.mod_lt _ (by decide)⟩
  | 1 => ⟨(c.val + 3) % 4, Nat.mod_lt _ (by decide)⟩
/-- The device the half `sd` comes from. -/
def prv (sd : Fin 2) (c : Dev nD) : Dev nD :=
  match sd with
  | 0 => ⟨(c.val + 3) % 4, Nat.mod_lt _ (by decide)⟩
  | 1 => ⟨(c.val + 1) % 4, Nat.mod_lt _ (by decide)⟩
/-- Whose shard device `c` holds in half `sd` at hop `h`. -/
def hold (sd : Fin 2) (c : Dev nD) (h : ℕ) : Dev nD :=
  match sd with
  | 0 => ⟨(c.val + 3 * h) % 4, Nat.mod_lt _ (by decide)⟩
  | 1 => ⟨(c.val + h) % 4, Nat.mod_lt _ (by decide)⟩

theorem prv_nxt : ∀ (sd : Fin 2) (c : Dev nD), prv sd (nxt sd c) = c := by decide
theorem nxt_prv : ∀ (sd : Fin 2) (c : Dev nD), nxt sd (prv sd c) = c := by decide
theorem hold_zero : ∀ (sd : Fin 2) (c : Dev nD), hold sd c 0 = c := by decide
/-- What lands at the next hop is what the sender holds now. -/
theorem hold_nxt (sd : Fin 2) (c : Dev nD) (h : ℕ) : hold sd (nxt sd c) (h + 1) = hold sd c h := by
  match sd with
  | 0 => exact Fin.ext (by simp only [hold, nxt]; omega)
  | 1 => exact Fin.ext (by simp only [hold, nxt]; omega)

/-! ## The windows' contents, on all devices -/

/-- What the five input windows hold, per device. -/
structure Ins (F : FTy → Type) [FloatOps F] : Type where
  x : Dev nD → Vec F S2x512x768 .bf16
  wq : Dev nD → Vec F S768x512 .bf16
  k : Dev nD → Vec F S2x32x512x64 .bf16
  v : Dev nD → Vec F S2x32x512x64 .bf16
  wo : Dev nD → Vec F S512x768 .bf16

variable (I : Ins F)

/-- The half `sd` of device `d`'s query weights, and of its output weights. -/
def wqHalf (sd : Fin 2) (d : Dev nD) : Vec F S768x256 .bf16 := (wqM.access (wqRect sd)).read (Elt F) (I.wq d)
def woHalf (sd : Fin 2) (d : Dev nD) : Vec F S256x768 .bf16 := (woM.access (woRect sd)).read (Elt F) (I.wo d)
/-- Batch `b` of a device's rows. -/
def xBlk (c : Dev nD) (b : Fin 2) : Vec F S1x512x768 .bf16 := (xM.access (xRect b)).read (Elt F) (I.x c)
/-- The keys and values of one head at one hop. -/
def kBlk (c : Dev nD) (b sd : Fin 2) (hop hh : Fin 4) : Vec F S1x1x512x64 .bf16 :=
  (kM.access (kRect b sd c hop hh)).read (Elt F) (I.k c)
def vBlk (c : Dev nD) (b sd : Fin 2) (hop hh : Fin 4) : Vec F S1x1x512x64 .bf16 :=
  (vM.access (kRect b sd c hop hh)).read (Elt F) (I.v c)

/-- The scaled queries, from a slot's contents as a matrix. -/
def qgV (x : Vec F S1x512x768 .bf16) (w : Vec F S768x256 .bf16) : FVec F S512x256 .bf16 :=
  truncf .bf16 (mulf (matmul dot_S512x768_S768x256_S512x256_1_0_0_1_n_n none
      (shapeCast S512x768 x shapeCasts_S1x512x768_S512x768) w
      (constant S512x256 .f32 0x00000000#32))
    (broadcast S512x256 (Scalar.ofBits .f32 0x3E000000#32))) bitsLt_bf16_f32
theorem qgOf_eq (x : Vec F S1x512x768 .bf16) (w : Vec F S1x768x256 .bf16) :
    qgOf x w = qgV x (shapeCast S768x256 w shapeCasts_S1x768x256_S768x256) := rfl

/-- One half's contribution, from a slot's contents as a matrix. -/
def partV (cx : Vec F S512x256 .bf16) (w : Vec F S256x768 .bf16) : FVec F S512x768 .f32 :=
  matmul dot_S512x256_S256x768_S512x768_1_0_0_1_n_n none cx w (constant S512x768 .f32 0x00000000#32)
theorem partOf_eq (cx : Vec F S512x256 .bf16) (w : Vec F S1x256x768 .bf16) :
    partOf cx w = partV cx (shapeCast S256x768 w shapeCasts_S1x256x768_S256x768) := rfl

/-- Four heads' contexts side by side. -/
def ctxV (hs : Fin 4 → FVec F S512x64 .bf16) : Vec F S512x256 .bf16 := fun i =>
  hs ⟨(i 1).val / 64, by have := idx2_lt1 i; omega⟩ (ix2 (i 0) ⟨(i 1).val % 64, Nat.mod_lt _ (by decide)⟩)

/-- The context of head `hh` of half `sd` at a hop. -/
def headV (c : Dev nD) (b sd : Fin 2) (hop hh : Fin 4) : FVec F S512x64 .bf16 :=
  headOf hh (qgV (xBlk I c b) (wqHalf I sd (hold sd c hop.val))) (kBlk I c b sd hop hh) (vBlk I c b sd hop hh) maskOf
/-- The contribution of half `sd` at a hop. -/
def halfV (c : Dev nD) (b sd : Fin 2) (hop : Fin 4) : FVec F S512x768 .f32 :=
  partV (ctxV fun hh => headV I c b sd hop hh) (woHalf I sd (hold sd c hop.val))

/-- Batch `b` of the result after hops 0 to `hop`. -/
def accV (c : Dev nD) (b : Fin 2) : ℕ → FVec F S1x512x768 .f32
  | 0 => firstOf (halfV I c b 0 0) (halfV I c b 1 0)
  | n + 1 => nextOf (accV c b n) (halfV I c b 0 (Fin.ofNat 4 (n + 1))) (halfV I c b 1 (Fin.ofNat 4 (n + 1)))

/-- The result a device leaves. -/
def outV (c : Dev nD) : Vec F S2x512x768 .f32 := fun i =>
  accV I c (i 0) 3 (ix3 (0 : Fin 1) (i 1) (i 2))

end Cert.Kernel.Gen
-- ==== Proof.Sched.lean ====
module

public import proofs.«01_k».proof.Proof.Values
public import Idealize.ShloMosaic.Lib.Pipeline.RegionTalk
public import Idealize.ShloMosaic.Lib.Tactic

@[expose] public section

/-! # The schedule of the ring

Seventeen cells per device. The barrier cell meets both neighbours before each of the three hops that pass
weights on: the unit from a neighbour hands over the slots of that neighbour the coming copies write. Every
slot of every circulating buffer has a cell counting what left it and a cell counting what landed in it. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 2)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Hops -/

/-- The slot a hop reads and sends from, the slot it fills, and how often that pair of slots was used before. -/
abbrev sl : Fin 3 → Fin 2 | 0 => 0 | 1 => 1 | 2 => 0
abbrev rl : Fin 3 → Fin 2 | 0 => 1 | 1 => 0 | 2 => 1
abbrev rd : Fin 3 → ℕ | 0 => 0 | 1 => 0 | 2 => 1

/-! ## Cells -/

abbrev barCell (c : Dev nD) : GSem nD τ sig := ((c : Thread nD τ), .reg barSem)
abbrev qSendC (c : Dev nD) (sd s : Fin 2) : GSem nD τ sig := ((c : Thread nD τ), .dma (qSend sd s))
abbrev qRecvC (c : Dev nD) (sd s : Fin 2) : GSem nD τ sig := ((c : Thread nD τ), .dma (qRecv sd s))
abbrev oSendC (c : Dev nD) (sd s : Fin 2) : GSem nD τ sig := ((c : Thread nD τ), .dma (oSend sd s))
abbrev oRecvC (c : Dev nD) (sd s : Fin 2) : GSem nD τ sig := ((c : Thread nD τ), .dma (oRecv sd s))

/-- The units a query slot's copy moves, and an output slot's. -/
abbrev NQ : ℕ := (qSlot 0 0).view.dmaCredit
abbrev NO : ℕ := (oSlot 0 0).view.dmaCredit
theorem NQ_pos : 0 < NQ := View.dmaCredit_pos _ (by decide)
theorem NO_pos : 0 < NO := View.dmaCredit_pos _ (by decide)

/-! ## What is owned of a slot -/

variable (I : Ins F)

/-- Slot `s` of device `c`'s query half `sd`, at share `p`, holding the matrix `X`. -/
def qOwn (c : Dev nD) (sd s : Fin 2) (p : PosShare TreeShare) (X : Vec F S768x256 .bf16) : sProp 𝕄 :=
  iprop(∃ f : Buf (Elt F) ((qSlot sd s).view.loc (c : Thread nD τ)), ⌜(qSlot sd s).view.read (Elt F) f = X⌝
    ∗ ((qSlot sd s).view.loc (c : Thread nD τ) ↦[(qSlot sd s).view.set]{p} f))
def oOwn (c : Dev nD) (sd s : Fin 2) (p : PosShare TreeShare) (X : Vec F S256x768 .bf16) : sProp 𝕄 :=
  iprop(∃ f : Buf (Elt F) ((oSlot sd s).view.loc (c : Thread nD τ)), ⌜(oSlot sd s).view.read (Elt F) f = X⌝
    ∗ ((oSlot sd s).view.loc (c : Thread nD τ) ↦[(oSlot sd s).view.set]{p} f))
/-- The same, whole, the contents not chosen. -/
def qAny (c : Dev nD) (sd s : Fin 2) : sProp 𝕄 :=
  iprop(∃ f : Buf (Elt F) ((qSlot sd s).view.loc (c : Thread nD τ)),
    ((qSlot sd s).view.loc (c : Thread nD τ) ↦[(qSlot sd s).view.set]{fullShare} f))
def oAny (c : Dev nD) (sd s : Fin 2) : sProp 𝕄 :=
  iprop(∃ f : Buf (Elt F) ((oSlot sd s).view.loc (c : Thread nD τ)),
    ((oSlot sd s).view.loc (c : Thread nD τ) ↦[(oSlot sd s).view.set]{fullShare} f))

/-! ## Payloads -/

/-- Paid to `c`'s barrier cell at hop `h` by the neighbour the half `sd` goes to: that neighbour's slots to
    fill, and that their arrival cells have come to the round these copies pay. -/
def barPay (c : Dev nD) (h : Fin 3) (sd : Fin 2) : sProp 𝕄 :=
  iprop((qAny (F := F) (nxt sd c) sd (rl h) ∗ oAny (nxt sd c) sd (rl h))
    ∗ reached ER (qRecvC (nxt sd c) sd (rl h)) (rd h) ∗ reached ER (oRecvC (nxt sd c) sd (rl h)) (rd h))
/-- Back to the sender: the half share of the slot it lent to the copy. -/
def qSendPay (c : Dev nD) (sd s : Fin 2) (h : ℕ) : sProp 𝕄 := qOwn c sd s fullShare.left (wqHalf I sd (hold sd c h))
def oSendPay (c : Dev nD) (sd s : Fin 2) (h : ℕ) : sProp 𝕄 := oOwn c sd s fullShare.left (woHalf I sd (hold sd c h))
/-- Landed at hop `h`: the slot with the shard of the next hop, and that the sender's barrier has met. -/
def qRecvPay (c : Dev nD) (sd s : Fin 2) (h : ℕ) : sProp 𝕄 :=
  iprop(qOwn c sd s fullShare (wqHalf I sd (hold sd c (h + 1))) ∗ reached ER (barCell (prv sd c)) (h + 1))
def oRecvPay (c : Dev nD) (sd s : Fin 2) (h : ℕ) : sProp 𝕄 := oOwn c sd s fullShare (woHalf I sd (hold sd c (h + 1)))

/-- Which hop round `r` of a cell of slot `s` belongs to: cells counting departures, and arrivals. -/
abbrev hopS (s : Fin 2) (r : ℕ) : ℕ := 2 * r + s.val
abbrev hopR (s : Fin 2) (r : ℕ) : ℕ := 2 * r + (1 - s.val)

abbrev Kd : Type := Fin 4
/-- Which cell a DMA semaphore of the ring is: kind, half, slot. -/
abbrev kdOf (i : ℕ) : ℕ := (i - 6) % 8 / 2
abbrev sdOf (i : ℕ) : Fin 2 := Fin.ofNat 2 ((i - 6) / 8)
abbrev ssOf (i : ℕ) : Fin 2 := Fin.ofNat 2 (i % 2)
abbrev hopOf (i r : ℕ) : ℕ := if kdOf i % 2 = 0 then hopS (ssOf i) r else hopR (ssOf i) r

/-- The schedule. -/
def ringRd : Rounds.Schedule (GSem nD τ sig) (Fin 2) 𝕄 where
  duties g r :=
    if g.1.2 = .tc then
      match g.2 with
      | .reg s => if s = barSem ∧ r < 3 then Finset.univ else ∅
      | .dma i => if 6 ≤ i.val ∧ hopOf i.val r < 3 then {0} else ∅
    else ∅
  unitless _ := False
  amount g _ _ :=
    match g.2 with
    | .reg _ => 1
    | .dma i => if kdOf i.val < 2 then NQ else NO
  payload g r d :=
    match g.2 with
    | .reg _ => if r = 0 then barPay g.1.1 0 d else if r = 1 then barPay g.1.1 1 d else barPay g.1.1 2 d
    | .dma i =>
      if kdOf i.val = 0 then qSendPay I g.1.1 (sdOf i.val) (ssOf i.val) (hopS (ssOf i.val) r)
      else if kdOf i.val = 1 then qRecvPay I g.1.1 (sdOf i.val) (ssOf i.val) (hopR (ssOf i.val) r)
      else if kdOf i.val = 2 then oSendPay I g.1.1 (sdOf i.val) (ssOf i.val) (hopS (ssOf i.val) r)
      else oRecvPay I g.1.1 (sdOf i.val) (ssOf i.val) (hopR (ssOf i.val) r)
  amount_pos g r d h := by
    rcases g with ⟨t, sm⟩
    cases sm with
    | reg s => exact Nat.one_pos
    | dma i => show 0 < if kdOf i.val < 2 then NQ else NO; split; exacts [NQ_pos, NO_pos]

instance qOwn_storable (c : Dev nD) (sd s p X) : BI.Storable (upEmb : UEmb _ 𝕄) (qOwn (F := F) c sd s p X) := by
  unfold qOwn; infer_instance
instance oOwn_storable (c : Dev nD) (sd s p X) : BI.Storable (upEmb : UEmb _ 𝕄) (oOwn (F := F) c sd s p X) := by
  unfold oOwn; infer_instance
instance qAny_storable (c : Dev nD) (sd s) : BI.Storable (upEmb : UEmb _ 𝕄) (qAny (F := F) c sd s) := by
  unfold qAny; infer_instance
instance oAny_storable (c : Dev nD) (sd s) : BI.Storable (upEmb : UEmb _ 𝕄) (oAny (F := F) c sd s) := by
  unfold oAny; infer_instance
instance barPay_storable (c : Dev nD) (h sd) : BI.Storable (upEmb : UEmb _ 𝕄) (barPay (F := F) c h sd) := by
  unfold barPay; infer_instance

instance ringRd_payload_storable (g : GSem nD τ sig) (r : ℕ) (d : Fin 2) :
    BI.Storable (upEmb : UEmb _ 𝕄) ((ringRd I).payload g r d) := by
  rcases g with ⟨t, sm⟩
  cases sm with
  | reg s =>
    show BI.Storable upEmb (if r = 0 then barPay t.1 0 d else if r = 1 then barPay t.1 1 d else barPay t.1 2 d)
    (repeat' split) <;> infer_instance
  | dma i =>
    show BI.Storable upEmb (if kdOf i.val = 0 then qSendPay I t.1 (sdOf i.val) (ssOf i.val) (hopS (ssOf i.val) r)
      else if kdOf i.val = 1 then qRecvPay I t.1 (sdOf i.val) (ssOf i.val) (hopR (ssOf i.val) r)
      else if kdOf i.val = 2 then oSendPay I t.1 (sdOf i.val) (ssOf i.val) (hopS (ssOf i.val) r)
      else oRecvPay I t.1 (sdOf i.val) (ssOf i.val) (hopR (ssOf i.val) r))
    unfold qSendPay qRecvPay oSendPay oRecvPay
    (repeat' split) <;> infer_instance

/-! ## The schedule read at each cell -/

section Read

variable (c : Dev nD)

theorem duties_bar (h : Fin 3) : (ringRd I).duties (barCell c) h.val = Finset.univ := by
  show (if (c : Thread nD τ).2 = .tc then (if barSem = barSem ∧ h.val < 3 then Finset.univ else ∅) else ∅ : Finset (Fin 2)) = _
  rw [if_pos rfl, if_pos ⟨rfl, h.isLt⟩]
theorem duties_qSend (sd : Fin 2) (h : Fin 3) : (ringRd I).duties (qSendC c sd (sl h)) (rd h) = {0} := by
  fin_cases sd <;> fin_cases h <;> rfl
theorem duties_qRecv (sd : Fin 2) (h : Fin 3) : (ringRd I).duties (qRecvC c sd (rl h)) (rd h) = {0} := by
  fin_cases sd <;> fin_cases h <;> rfl
theorem duties_oSend (sd : Fin 2) (h : Fin 3) : (ringRd I).duties (oSendC c sd (sl h)) (rd h) = {0} := by
  fin_cases sd <;> fin_cases h <;> rfl
theorem duties_oRecv (sd : Fin 2) (h : Fin 3) : (ringRd I).duties (oRecvC c sd (rl h)) (rd h) = {0} := by
  fin_cases sd <;> fin_cases h <;> rfl

theorem amount_bar (r : ℕ) (d : Fin 2) : (ringRd I).amount (barCell c) r d = 1 := rfl
theorem amount_qSend (sd s : Fin 2) (r : ℕ) (d : Fin 2) : (ringRd I).amount (qSendC c sd s) r d = NQ := by
  fin_cases sd <;> fin_cases s <;> rfl
theorem amount_qRecv (sd s : Fin 2) (r : ℕ) (d : Fin 2) : (ringRd I).amount (qRecvC c sd s) r d = NQ := by
  fin_cases sd <;> fin_cases s <;> rfl
theorem amount_oSend (sd s : Fin 2) (r : ℕ) (d : Fin 2) : (ringRd I).amount (oSendC c sd s) r d = NO := by
  fin_cases sd <;> fin_cases s <;> rfl
theorem amount_oRecv (sd s : Fin 2) (r : ℕ) (d : Fin 2) : (ringRd I).amount (oRecvC c sd s) r d = NO := by
  fin_cases sd <;> fin_cases s <;> rfl

theorem payload_bar (h : Fin 3) (sd : Fin 2) : (ringRd I).payload (barCell c) h.val sd = barPay c h sd := by
  fin_cases h <;> rfl
theorem payload_qSend (sd : Fin 2) (h : Fin 3) (d : Fin 2) :
    (ringRd I).payload (qSendC c sd (sl h)) (rd h) d = qSendPay I c sd (sl h) h.val := by
  fin_cases sd <;> fin_cases h <;> rfl
theorem payload_qRecv (sd : Fin 2) (h : Fin 3) (d : Fin 2) :
    (ringRd I).payload (qRecvC c sd (rl h)) (rd h) d = qRecvPay I c sd (rl h) h.val := by
  fin_cases sd <;> fin_cases h <;> rfl
theorem payload_oSend (sd : Fin 2) (h : Fin 3) (d : Fin 2) :
    (ringRd I).payload (oSendC c sd (sl h)) (rd h) d = oSendPay I c sd (sl h) h.val := by
  fin_cases sd <;> fin_cases h <;> rfl
theorem payload_oRecv (sd : Fin 2) (h : Fin 3) (d : Fin 2) :
    (ringRd I).payload (oRecvC c sd (rl h)) (rd h) d = oRecvPay I c sd (rl h) h.val := by
  fin_cases sd <;> fin_cases h <;> rfl

theorem expect_bar (h : Fin 3) : (ringRd I).expect (barCell c) h.val = 2 := by
  unfold Schedule.expect Schedule.amountOf; rw [duties_bar]; rfl
theorem expect_qSend (sd : Fin 2) (h : Fin 3) : (ringRd I).expect (qSendC c sd (sl h)) (rd h) = NQ := by
  unfold Schedule.expect Schedule.amountOf; rw [duties_qSend, Finset.sum_singleton, amount_qSend]
theorem expect_qRecv (sd : Fin 2) (h : Fin 3) : (ringRd I).expect (qRecvC c sd (rl h)) (rd h) = NQ := by
  unfold Schedule.expect Schedule.amountOf; rw [duties_qRecv, Finset.sum_singleton, amount_qRecv]
theorem expect_oSend (sd : Fin 2) (h : Fin 3) : (ringRd I).expect (oSendC c sd (sl h)) (rd h) = NO := by
  unfold Schedule.expect Schedule.amountOf; rw [duties_oSend, Finset.sum_singleton, amount_oSend]
theorem expect_oRecv (sd : Fin 2) (h : Fin 3) : (ringRd I).expect (oRecvC c sd (rl h)) (rd h) = NO := by
  unfold Schedule.expect Schedule.amountOf; rw [duties_oRecv, Finset.sum_singleton, amount_oRecv]

theorem rest_bar (h : Fin 3) : bigSep ((ringRd I).duties (barCell c) h.val \ ∅) (fun u => (ringRd I).payload (barCell c) h.val u)
    = iprop(barPay (F := F) c h 0 ∗ barPay c h 1) := by
  rw [Finset.sdiff_empty, duties_bar]
  refine (BI.bigSep_fin_two _).trans ?_
  rw [payload_bar, payload_bar]
  rfl
theorem rest_qSend (sd : Fin 2) (h : Fin 3) :
    bigSep ((ringRd I).duties (qSendC c sd (sl h)) (rd h) \ ∅) (fun u => (ringRd I).payload (qSendC c sd (sl h)) (rd h) u)
      = qSendPay I c sd (sl h) h.val := by
  rw [Finset.sdiff_empty, duties_qSend, bigSep_singleton, payload_qSend]
theorem rest_qRecv (sd : Fin 2) (h : Fin 3) :
    bigSep ((ringRd I).duties (qRecvC c sd (rl h)) (rd h) \ ∅) (fun u => (ringRd I).payload (qRecvC c sd (rl h)) (rd h) u)
      = qRecvPay I c sd (rl h) h.val := by
  rw [Finset.sdiff_empty, duties_qRecv, bigSep_singleton, payload_qRecv]
theorem rest_oSend (sd : Fin 2) (h : Fin 3) :
    bigSep ((ringRd I).duties (oSendC c sd (sl h)) (rd h) \ ∅) (fun u => (ringRd I).payload (oSendC c sd (sl h)) (rd h) u)
      = oSendPay I c sd (sl h) h.val := by
  rw [Finset.sdiff_empty, duties_oSend, bigSep_singleton, payload_oSend]
theorem rest_oRecv (sd : Fin 2) (h : Fin 3) :
    bigSep ((ringRd I).duties (oRecvC c sd (rl h)) (rd h) \ ∅) (fun u => (ringRd I).payload (oRecvC c sd (rl h)) (rd h) u)
      = oRecvPay I c sd (rl h) h.val := by
  rw [Finset.sdiff_empty, duties_oRecv, bigSep_singleton, payload_oRecv]

/-- Past its last hop, no cell has a duty left. -/
theorem duties_bar_end : ∀ r, 3 ≤ r → (ringRd I).duties (barCell c) r = ∅ := fun r hr => by
  show (if (c : Thread nD τ).2 = .tc then (if barSem = barSem ∧ r < 3 then Finset.univ else ∅) else ∅ : Finset (Fin 2)) = _
  rw [if_pos rfl, if_neg (fun h => absurd h.2 (by omega))]
theorem duties_dma_end (i : DmaSem sig) (n : ℕ) (hn : ∀ r, n ≤ r → 3 ≤ hopOf i.val r) :
    ∀ r, n ≤ r → (ringRd I).duties ((c : Thread nD τ), .dma i) r = ∅ := fun r hr => by
  show (if (c : Thread nD τ).2 = .tc then (if 6 ≤ i.val ∧ hopOf i.val r < 3 then {0} else ∅) else ∅ : Finset (Fin 2)) = _
  rw [if_pos rfl, if_neg (fun h => absurd h.2 (by have := hn r hr; omega))]

end Read

/-! ## Levels -/

/-- The barrier of hop `h` is met at phase `2h+1`, its copies land at phase `2h+2`; the rest at phase 0. -/
def L (g : GSem nD τ sig) : Finset ℕ := if g.1.2 = .tc then Finset.range 7 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 7 := if_pos rfl

/-- What device `c` still owes of hop `h` on top of `O`, in the order it pays. -/
abbrev oweO (c : Dev nD) (h : Fin 3) (sd : Fin 2) (O : CellTallies nD τ sig ℕ) : CellTallies nD τ sig ℕ :=
  O + tallyAt (oRecvC (nxt sd c) sd (rl h)) (2 * h.val + 2) NO
abbrev oweQ (c : Dev nD) (h : Fin 3) (sd : Fin 2) (O : CellTallies nD τ sig ℕ) : CellTallies nD τ sig ℕ :=
  O + tallyAt (qRecvC (nxt sd c) sd (rl h)) (2 * h.val + 2) NQ
/-- The four copies of hop `h`. -/
abbrev oweC (c : Dev nD) (h : Fin 3) (O : CellTallies nD τ sig ℕ) : CellTallies nD τ sig ℕ :=
  oweQ c h 0 (oweO c h 0 (oweQ c h 1 (oweO c h 1 O)))
/-- One signal of hop `h`: to the device the half `1 - sd` goes to. -/
abbrev oweB (c : Dev nD) (h : Fin 3) (sd : Fin 2) (O : CellTallies nD τ sig ℕ) : CellTallies nD τ sig ℕ :=
  O + tallyAt (barCell (prv sd c)) (2 * h.val + 1) 1
/-- All of hop `h`. -/
abbrev oweH (c : Dev nD) (h : Fin 3) (O : CellTallies nD τ sig ℕ) : CellTallies nD τ sig ℕ :=
  oweB c h 0 (oweB c h 1 (oweC c h O))

/-- Everything owed is owed to TensorCores, at phases above `n`. -/
def Above (n : ℕ) (O : CellTallies nD τ sig ℕ) : Prop :=
  ∀ g i, 0 < O g i → i ∈ L g ∧ n < i

theorem above_zero (n : ℕ) : Above n 0 := fun g i h => absurd h (Nat.lt_irrefl 0)
theorem above_add {n : ℕ} {O : CellTallies nD τ sig ℕ} (h : Above n O) (c : Dev nD) (sm : SemLoc sig) (i N : ℕ) (hi : i < 7) (hn : n < i) :
    Above n (O + tallyAt ((c : Thread nD τ), sm) i N) := fun g j hj => by
  rw [Pi.add_apply, Finsupp.add_apply] at hj
  rcases Nat.add_pos_iff_pos_or_pos.mp hj with hj | hj
  · exact h g j hj
  · rw [tallyAt_apply] at hj
    split at hj
    · next e => rw [e.1, e.2, L_tc]; exact ⟨Finset.mem_range.mpr hi, hn⟩
    · exact absurd hj (Nat.lt_irrefl 0)
theorem Above.mono {n k : ℕ} {O : CellTallies nD τ sig ℕ} (h : Above n O) (hk : k ≤ n) : Above k O :=
  fun g i hi => ⟨(h g i hi).1, lt_of_le_of_lt hk (h g i hi).2⟩
theorem above_oweC {c : Dev nD} {h : Fin 3} {n : ℕ} {O : CellTallies nD τ sig ℕ} (hO : Above n O) (hn : n < 2 * h.val + 2) :
    Above n (oweC c h O) := by
  have := h.isLt
  exact above_add (above_add (above_add (above_add hO _ _ _ _ (by omega) hn) _ _ _ _ (by omega) hn) _ _ _ _ (by omega) hn)
    _ _ _ _ (by omega) hn
theorem above_oweH {c : Dev nD} {h : Fin 3} {n : ℕ} {O : CellTallies nD τ sig ℕ} (hO : Above n O) (hn : n < 2 * h.val + 1) :
    Above n (oweH c h O) := by
  have := h.isLt
  exact above_add (above_add (above_oweC hO (by omega)) _ _ _ _ (by omega) hn) _ _ _ _ (by omega) hn

/-- A core may wait on one of its cells at a phase below all it owes. -/
theorem mayWait {c : Dev nD} {n : ℕ} (hn : n < 7) {O : CellTallies nD τ sig ℕ} (h : Above n O) (sm : SemLoc sig) :
    (levAts L lv : sProp 𝕄) ⊢ MayWait (c : Thread nD τ) sm n O :=
  MayOwe.of_cut (L := L) (lev := lv) n
    (fun p hp => by rw [Finset.mem_singleton.mp hp, L_tc]; exact Finset.mem_range.mpr hn)
    (fun g u hg => (h g u hg).1)
    (fun p hp => by rw [Finset.mem_singleton.mp hp]; exact le_rfl)
    (fun g u hg => (h g u hg).2)

end Cert.Kernel.Gen
-- ==== Proof.Compute.lean ====
module

public import proofs.«01_k».proof.Proof.Sched

@[expose] public section

/-! # The computing pieces, run

Each piece of a hop's compute, from the buffers it reads to the buffers it leaves. -/

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- A program of device `c`, run. -/
abbrev runs (c : Dev nD) {α : Type} (p : TcProg F α) (Kt : α → sProp 𝕄) : sProp 𝕄 :=
  wp frame (wpE (defs₀ (F := F)) 𝒱₀ (c : Thread nD τ) none) Set.univ p Kt

/-- A whole buffer of device `c` at the contents `f`. -/
abbrev pt (c : Dev nD) {sp : Space} {s : Shape} {e : EltTy} (m : Memref sig .tc sp s e)
    (f : Buf (Elt F) (m.view.loc (c : Thread nD τ))) : sProp 𝕄 :=
  m.view.loc (c : Thread nD τ) ↦{fullShare} f

/-! ## The context buffer -/

/-- A store of one head's context, read back anywhere. -/
theorem ctx_step (k : Fin 8) (f : ctxM.view.ty.Contents (Elt F)) (w : Vec F S512x64 .bf16) (z : S512x512.Idx) :
    ctxM.view.read (Elt F) ((ctxM.access (cRect k)).write (Elt F) f w Finset.univ) z
      = if h : 64 * k.val ≤ (z 1).val ∧ (z 1).val < 64 * k.val + 64
        then w (ix2 (z 0) ⟨(z 1).val - 64 * k.val, by omega⟩) else ctxM.view.read (Elt F) f z := by
  split
  · next h =>
    have hz : z = (cRect k).emb (ix2 (z 0) ⟨(z 1).val - 64 * k.val, by omega⟩ : S512x64.Idx) := by
      funext a
      match a with
      | ⟨0, _⟩ =>
        refine Fin.ext ?_
        show (z 0).val = 0 + 1 * (z 0).val
        omega
      | ⟨1, _⟩ =>
        refine Fin.ext ?_
        show (z 1).val = 64 * k.val + 1 * ((z 1).val - 64 * k.val)
        omega
    conv_lhs => rw [hz]
    exact View.read_slice_write_emb (cRect k) f w (Finset.mem_univ _)
  · next h =>
    refine View.read_slice_write_of_not_mem (cRect k) f w Finset.univ ?_
    intro hm
    obtain ⟨x, -, hx⟩ := Finset.mem_map.mp hm
    refine h ?_
    have h1 : (z 1).val = 64 * k.val + 1 * (x 1).val := by rw [← hx]; rfl
    have h2 : (x 1).val < 64 := (x 1).isLt
    omega

/-- The four stores of one half, read back as one matrix. -/
theorem ctx_four (sd : Fin 2) (k0 k1 k2 k3 : Fin 8) (e0 : k0.val = 4 * sd.val + 0) (e1 : k1.val = 4 * sd.val + 1)
    (e2 : k2.val = 4 * sd.val + 2) (e3 : k3.val = 4 * sd.val + 3) (f : ctxM.view.ty.Contents (Elt F))
    (hs : Fin 4 → FVec F S512x64 .bf16) :
    (ctxM.access (hRect sd)).read (Elt F)
      ((ctxM.access (cRect k3)).write (Elt F)
        ((ctxM.access (cRect k2)).write (Elt F)
          ((ctxM.access (cRect k1)).write (Elt F)
            ((ctxM.access (cRect k0)).write (Elt F) f (hs 0) Finset.univ)
            (hs 1) Finset.univ) (hs 2) Finset.univ) (hs 3) Finset.univ) = ctxV hs := by
  funext y
  have hy : (y 1).val < 256 := idx2_lt1 (n0 := 512) (n1 := 256) y
  have z1 : (((hRect sd).emb y) 1).val = 256 * sd.val + 1 * (y 1).val := rfl
  have z0 : ((hRect sd).emb y) 0 = y 0 := Fin.ext (by show 0 + 1 * (y 0).val = (y 0).val; omega)
  have key : ∀ (i : Fin 4) (k : Fin 8) (hk : k.val = 4 * sd.val + i.val) (hi : (y 1).val / 64 = i.val)
      (hb : (((hRect sd).emb y) 1).val - 64 * k.val < 64),
      hs i (ix2 (((hRect sd).emb y) 0) ⟨(((hRect sd).emb y) 1).val - 64 * k.val, hb⟩) = ctxV hs y := by
    intro i k hk hi hb
    have e2 : (⟨(y 1).val / 64, by omega⟩ : Fin 4) = i := Fin.ext hi
    have e3 : (⟨(((hRect sd).emb y) 1).val - 64 * k.val, hb⟩ : Fin 64) = ⟨(y 1).val % 64, Nat.mod_lt _ (by decide)⟩ :=
      Fin.ext (by show (((hRect sd).emb y) 1).val - 64 * k.val = (y 1).val % 64; rw [z1]; omega)
    rw [e3, z0, ← e2]; rfl
  generalize hz : (hRect sd).emb y = z at key z1 z0
  show ctxM.view.read (Elt F) _ ((hRect sd).emb y) = _
  rw [hz]
  refine (ctx_step k3 _ (hs 3) z).trans ?_
  split
  · next h => exact key 3 k3 e3 (by show _ = 3; omega) _
  · next h3 =>
    refine (ctx_step k2 _ (hs 2) z).trans ?_
    split
    · next h => exact key 2 k2 e2 (by show _ = 2; omega) _
    · next h2 =>
      refine (ctx_step k1 _ (hs 1) z).trans ?_
      split
      · next h => exact key 1 k1 e1 (by show _ = 1; omega) _
      · next h1 =>
        refine (ctx_step k0 _ (hs 0) z).trans ?_
        split
        · next h => exact key 0 k0 e0 (by show _ = 0; omega) _
        · next h0 => exfalso; omega

/-! ## One head, one half -/

theorem headP_wp (b sd : Fin 2) (c : Dev nD) (hop hh : Fin 4) (k8 : Fin 8) (qg : FVec F S512x256 .bf16)
    (kf : Buf (Elt F) (kM.view.loc (c : Thread nD τ))) (vf : Buf (Elt F) (vM.view.loc (c : Thread nD τ)))
    (mf : Buf (Elt F) (maskM.view.loc (c : Thread nD τ))) (cf : Buf (Elt F) (ctxM.view.loc (c : Thread nD τ)))
    (Kt : PUnit → sProp 𝕄) :
    iprop(pt c kM kf ∗ pt c vM vf ∗ pt c maskM mf ∗ pt c ctxM cf
        ∗ (pt c kM kf -∗ pt c vM vf -∗ pt c maskM mf -∗ pt c ctxM ((ctxM.access (cRect k8)).write (Elt F) cf
            (headOf hh qg ((kM.access (kRect b sd c hop hh)).read (Elt F) kf) ((vM.access (kRect b sd c hop hh)).read (Elt F) vf)
              ((maskM.access mRect).read (Elt F) mf)) Finset.univ) -∗ Kt ⟨⟩))
      ⊢ runs c (headP b sd c hop hh k8 qg) Kt := by
  unfold headP runs
  simp only [Prog.lift, Prog.bind_op, Prog.bind_ret]
  iintro ⟨Hk, Hv, Hm, Hc, HK⟩
  iapply (wp_load_rect 𝒱₀ (c : Thread nD τ) none Set.univ (m := kM) (r := kRect b sd c hop hh) (Finset.subset_univ _)) $$ Hk
  iintro Hk
  iapply (wp_load_rect 𝒱₀ (c : Thread nD τ) none Set.univ (m := vM) (r := kRect b sd c hop hh) (Finset.subset_univ _)) $$ Hv
  iintro Hv
  iapply (wp_load_rect 𝒱₀ (c : Thread nD τ) none Set.univ (m := maskM) (r := mRect) (Finset.subset_univ _)) $$ Hm
  iintro Hm
  iapply (wp_load_rect 𝒱₀ (c : Thread nD τ) none Set.univ (m := ctxM) (r := cRect k8) (Finset.subset_univ _)) $$ Hc
  iintro Hc
  iapply (wp_store 𝒱₀ (c : Thread nD τ) none Set.univ (m := ctxM) (r := cRect k8) (Finset.subset_univ _)) $$ Hc
  iintro Hc
  rw [wp_ret]
  imodintro
  iapply HK $$ Hk Hv Hm Hc

/-- A load of a slot of the query weights. -/
theorem qld (c : Dev nD) (sd s : Fin 2) (p : PosShare TreeShare) (X : Vec F S768x256 .bf16) {α : Type}
    {hl : (qBuf sd).view.LoadsAt (qRect s).toLoadRect} (k : Vec F S1x768x256 .bf16 → TcProg F α) (Kt : α → sProp 𝕄) :
    qOwn c sd s p X ⊢ iprop((∀ w, ⌜shapeCast S768x256 w shapeCasts_S1x768x256_S768x256 = X⌝ -∗ qOwn c sd s p X -∗ runs c (k w) Kt)
      -∗ runs c (.op (.load (qBuf sd) (qRect s).toLoadRect hl) k) Kt) := by
  unfold qOwn runs
  iintro ⟨%f, %hf, Hq⟩ HK
  have hS : (((qBuf sd).access (qRect s)).set) = (qSlot sd s).view.set := (View.set_reshape _ _).symm
  have h := wp_load_rect (U := UU) (defs := defs₀ (F := F)) (Γ := []) 𝒱₀ (c : Thread nD τ) none Set.univ (m := qBuf sd) (r := qRect s) (S := (qSlot sd s).view.set)
    (q := p) (f := f) (hl := hl) (k := k) (Q := Kt) (le_of_eq hS)
  iapply (show (((qSlot sd s).view.loc (c : Thread nD τ) ↦[(qSlot sd s).view.set]{p} f : sProp 𝕄)) ⊢ _ from h) $$ Hq
  iintro Hq
  iapply HK
  · ipureintro; exact hf
  iexists f
  isplitr; · ipureintro; exact hf
  iexact Hq
theorem old (c : Dev nD) (sd s : Fin 2) (p : PosShare TreeShare) (X : Vec F S256x768 .bf16) {α : Type}
    {hl : (oBuf sd).view.LoadsAt (oRect s).toLoadRect} (k : Vec F S1x256x768 .bf16 → TcProg F α) (Kt : α → sProp 𝕄) :
    oOwn c sd s p X ⊢ iprop((∀ w, ⌜shapeCast S256x768 w shapeCasts_S1x256x768_S256x768 = X⌝ -∗ oOwn c sd s p X -∗ runs c (k w) Kt)
      -∗ runs c (.op (.load (oBuf sd) (oRect s).toLoadRect hl) k) Kt) := by
  unfold oOwn runs
  iintro ⟨%f, %hf, Hq⟩ HK
  have hS : (((oBuf sd).access (oRect s)).set) = (oSlot sd s).view.set := (View.set_reshape _ _).symm
  have h := wp_load_rect (U := UU) (defs := defs₀ (F := F)) (Γ := []) 𝒱₀ (c : Thread nD τ) none Set.univ (m := oBuf sd) (r := oRect s) (S := (oSlot sd s).view.set)
    (q := p) (f := f) (hl := hl) (k := k) (Q := Kt) (le_of_eq hS)
  iapply (show (((oSlot sd s).view.loc (c : Thread nD τ) ↦[(oSlot sd s).view.set]{p} f : sProp 𝕄)) ⊢ _ from h) $$ Hq
  iintro Hq
  iapply HK
  · ipureintro; exact hf
  iexists f
  isplitr; · ipureintro; exact hf
  iexact Hq

variable (I : Ins F)

/-- What every half reads beside the circulating slots, and the context buffer it fills. -/
def stage (c : Dev nD) : sProp 𝕄 :=
  iprop(pt c xM (I.x c) ∗ pt c kM (I.k c) ∗ pt c vM (I.v c)
    ∗ (∃ mf : Buf (Elt F) (maskM.view.loc (c : Thread nD τ)), ⌜(maskM.access mRect).read (Elt F) mf = maskOf (F := F)⌝ ∗ pt c maskM mf)
    ∗ ∃ cf : Buf (Elt F) (ctxM.view.loc (c : Thread nD τ)), pt c ctxM cf)

/-- One half of the circulating slots, at share `p`, with the shards of hop `h`. -/
def pairAt (c : Dev nD) (sd s : Fin 2) (p : PosShare TreeShare) (h : ℕ) : sProp 𝕄 :=
  iprop(qOwn c sd s p (wqHalf I sd (hold sd c h)) ∗ oOwn c sd s p (woHalf I sd (hold sd c h)))

theorem halfP_wp (b sd s : Fin 2) (c : Dev nD) (hop : Fin 4) (p : PosShare TreeShare) (Kt : FVec F S512x768 .f32 → sProp 𝕄) :
    iprop(stage I c ∗ pairAt I c sd s p hop.val ∗ (stage I c -∗ pairAt I c sd s p hop.val -∗ Kt (halfV I c b sd hop)))
      ⊢ runs c (halfP b sd s c hop) Kt := by
  unfold halfP stage pairAt
  simp only [Prog.lift, Prog.bind_op, Prog.bind_ret]
  iintro ⟨⟨Hx, Hk, Hv, ⟨%mf, %hm, Hm⟩, %cf, Hc⟩, ⟨Hq, Ho⟩, HK⟩
  iapply (wp_load_rect 𝒱₀ (c : Thread nD τ) none Set.univ (m := xM) (r := xRect b) (Finset.subset_univ _)) $$ Hx
  iintro Hx
  iapply (qld c sd s p _) $$ Hq
  iintro %w %hw Hq
  have hqg : qgOf ((xM.access (xRect b)).read (Elt F) (I.x c)) w = qgV (xBlk I c b) (wqHalf I sd (hold sd c hop.val)) := by
    rw [qgOf_eq, hw]; rfl
  rw [hqg]
  simp only [wp_bind]
  iapply (headP_wp b sd c hop 0 _ _ (I.k c) (I.v c) mf cf)
  isplitl [Hk]; · iexact Hk
  isplitl [Hv]; · iexact Hv
  isplitl [Hm]; · iexact Hm
  isplitl [Hc]; · iexact Hc
  iintro Hk Hv Hm Hc
  iapply (headP_wp b sd c hop 1 _ _ (I.k c) (I.v c) mf _)
  isplitl [Hk]; · iexact Hk
  isplitl [Hv]; · iexact Hv
  isplitl [Hm]; · iexact Hm
  isplitl [Hc]; · iexact Hc
  iintro Hk Hv Hm Hc
  iapply (headP_wp b sd c hop 2 _ _ (I.k c) (I.v c) mf _)
  isplitl [Hk]; · iexact Hk
  isplitl [Hv]; · iexact Hv
  isplitl [Hm]; · iexact Hm
  isplitl [Hc]; · iexact Hc
  iintro Hk Hv Hm Hc
  iapply (headP_wp b sd c hop 3 _ _ (I.k c) (I.v c) mf _)
  isplitl [Hk]; · iexact Hk
  isplitl [Hv]; · iexact Hv
  isplitl [Hm]; · iexact Hm
  isplitl [Hc]; · iexact Hc
  iintro Hk Hv Hm Hc
  iapply (wp_load_rect 𝒱₀ (c : Thread nD τ) none Set.univ (m := ctxM) (r := hRect sd) (Finset.subset_univ _)) $$ Hc
  iintro Hc
  iapply (old c sd s p _) $$ Ho
  iintro %w' %hw' Ho
  rw [hm, ctx_four sd ⟨4 * sd.val + 0, by omega⟩ ⟨4 * sd.val + 1, by omega⟩ ⟨4 * sd.val + 2, by omega⟩ ⟨4 * sd.val + 3, by omega⟩
    rfl rfl rfl rfl cf (fun hh => headOf hh (qgV (xBlk I c b) (wqHalf I sd (hold sd c hop.val)))
      ((kM.access (kRect b sd c hop hh)).read (Elt F) (I.k c)) ((vM.access (kRect b sd c hop hh)).read (Elt F) (I.v c)) maskOf),
    partOf_eq, hw']
  simp only [Prog.pure_eq_ret, wp_ret]
  imodintro
  rw [show partV (ctxV fun hh => headOf hh (qgV (xBlk I c b) (wqHalf I sd (hold sd c hop.val)))
      ((kM.access (kRect b sd c hop hh)).read (Elt F) (I.k c)) ((vM.access (kRect b sd c hop hh)).read (Elt F) (I.v c)) maskOf)
      (woHalf I sd (hold sd c hop.val)) = halfV I c b sd hop from rfl]
  iapply HK $$ [Hx Hk Hv Hm Hc] [Hq Ho]
  · isplitl [Hx]; · iexact Hx
    isplitl [Hk]; · iexact Hk
    isplitl [Hv]; · iexact Hv
    isplitl [Hm]
    · iexists mf
      isplitr; · ipureintro; exact hm
      iexact Hm
    iexists _; iexact Hc
  · isplitl [Hq]; · iexact Hq
    iexact Ho

/-! ## The result buffer -/

/-- What a hop stores for batch `b` over the contents `f`. -/
def stV (first : Bool) (b : Fin 2) (f : outM.view.ty.Contents (Elt F)) (pA pB : FVec F S512x768 .f32) : FVec F S1x512x768 .f32 :=
  match first with
  | true => firstOf pA pB
  | false => nextOf ((outM.access (xRect b)).read (Elt F) f) pA pB

theorem storeP_wp (first : Bool) (b : Fin 2) (c : Dev nD) (pA pB : FVec F S512x768 .f32) (f : Buf (Elt F) (outM.view.loc (c : Thread nD τ)))
    (Kt : PUnit → sProp 𝕄) :
    iprop(pt c outM f ∗ (pt c outM ((outM.access (xRect b)).write (Elt F) f (stV first b f pA pB) Finset.univ) -∗ Kt ⟨⟩))
      ⊢ runs c (storeP first b pA pB) Kt := by
  cases first
  · unfold storeP runs
    simp only [Prog.lift, Prog.bind_op, Prog.bind_ret]
    simp only [stV]
    iintro ⟨Ho, HK⟩
    iapply (wp_load_rect 𝒱₀ (c : Thread nD τ) none Set.univ (m := outM) (r := xRect b) (Finset.subset_univ _)) $$ Ho
    iintro Ho
    iapply (wp_load_rect 𝒱₀ (c : Thread nD τ) none Set.univ (m := outM) (r := xRect b) (Finset.subset_univ _)) $$ Ho
    iintro Ho
    iapply (wp_store 𝒱₀ (c : Thread nD τ) none Set.univ (m := outM) (r := xRect b) (Finset.subset_univ _)) $$ Ho
    iintro Ho
    rw [wp_ret]
    imodintro
    iapply HK $$ Ho
  · unfold storeP runs
    simp only [Prog.lift, Prog.bind_op, Prog.bind_ret]
    simp only [stV]
    iintro ⟨Ho, HK⟩
    iapply (wp_load_rect 𝒱₀ (c : Thread nD τ) none Set.univ (m := outM) (r := xRect b) (Finset.subset_univ _)) $$ Ho
    iintro Ho
    iapply (wp_store 𝒱₀ (c : Thread nD τ) none Set.univ (m := outM) (r := xRect b) (Finset.subset_univ _)) $$ Ho
    iintro Ho
    rw [wp_ret]
    imodintro
    iapply HK $$ Ho

/-- A batch's store, read back, and the other batch past it. -/
theorem out_same (b : Fin 2) (f : outM.view.ty.Contents (Elt F)) (w : FVec F S1x512x768 .f32) :
    (outM.access (xRect b)).read (Elt F) ((outM.access (xRect b)).write (Elt F) f w Finset.univ) = w :=
  View.read_write_univ _ _
theorem out_other {b b' : Fin 2} (hb : b ≠ b') (f : outM.view.ty.Contents (Elt F)) (w : FVec F S1x512x768 .f32) :
    (outM.access (xRect b')).read (Elt F) ((outM.access (xRect b)).write (Elt F) f w Finset.univ)
      = (outM.access (xRect b')).read (Elt F) f := by
  funext y
  refine View.read_slice_write_of_not_mem (v := outM.view) (xRect b) f w Finset.univ (y := (xRect b').emb y) ?_
  intro hm
  obtain ⟨x, -, hx⟩ := Finset.mem_map.mp hm
  have e : (((xRect b).emb x) 0).val = (((xRect b').emb y) 0).val := by rw [hx]
  have e1 : (((xRect b).emb x) 0).val = b.val + 1 * (x 0).val := rfl
  have e2 : (((xRect b').emb y) 0).val = b'.val + 1 * (y 0).val := rfl
  have h1 : (x 0).val < 1 := (x 0).isLt
  have h2 : (y 0).val < 1 := (y 0).isLt
  exact hb (Fin.ext (by omega))

/-- The result buffer after `n` hops. -/
def outSt (c : Dev nD) : ℕ → sProp 𝕄
  | 0 => iprop(∃ f : Buf (Elt F) (outM.view.loc (c : Thread nD τ)), pt c outM f)
  | n + 1 => iprop(∃ f : Buf (Elt F) (outM.view.loc (c : Thread nD τ)),
      ⌜∀ b, (outM.access (xRect b)).read (Elt F) f = accV I c b n⌝ ∗ pt c outM f)

/-- Both halves of a hop's slots. -/
def pairs (c : Dev nD) (s : Fin 2) (p : PosShare TreeShare) (h : ℕ) : sProp 𝕄 :=
  iprop(pairAt I c 0 s p h ∗ pairAt I c 1 s p h)

theorem batchP_wp (first : Bool) (b s : Fin 2) (c : Dev nD) (hop : Fin 4) (p : PosShare TreeShare)
    (f : Buf (Elt F) (outM.view.loc (c : Thread nD τ))) (Kt : PUnit → sProp 𝕄) :
    iprop(stage I c ∗ pairs I c s p hop.val ∗ pt c outM f
      ∗ (stage I c -∗ pairs I c s p hop.val -∗ pt c outM ((outM.access (xRect b)).write (Elt F) f
          (stV first b f (halfV I c b 0 hop) (halfV I c b 1 hop)) Finset.univ) -∗ Kt ⟨⟩))
      ⊢ runs c (batchP first b s c hop) Kt := by
  unfold batchP pairs runs
  simp only [wp_bind]
  iintro ⟨Hs, ⟨HA, HB⟩, Ho, HK⟩
  iapply (halfP_wp I b 0 s c hop p)
  isplitl [Hs]; · iexact Hs
  isplitl [HA]; · iexact HA
  iintro Hs HA
  iapply (halfP_wp I b 1 s c hop p)
  isplitl [Hs]; · iexact Hs
  isplitl [HB]; · iexact HB
  iintro Hs HB
  iapply (storeP_wp first b c _ _ f)
  isplitl [Ho]; · iexact Ho
  iintro Ho
  iapply HK $$ Hs [HA HB] Ho
  isplitl [HA]; · iexact HA
  iexact HB

/-- The result buffer's contents after a hop's two stores over `f`. -/
def outNext (c : Dev nD) (hop : Fin 4) (f : outM.view.ty.Contents (Elt F)) : outM.view.ty.Contents (Elt F) :=
  (outM.access (xRect 1)).write (Elt F)
    ((outM.access (xRect 0)).write (Elt F) f (stV (hop = 0) 0 f (halfV I c 0 0 hop) (halfV I c 0 1 hop)) Finset.univ)
    (stV (hop = 0) 1 ((outM.access (xRect 0)).write (Elt F) f (stV (hop = 0) 0 f (halfV I c 0 0 hop) (halfV I c 0 1 hop)) Finset.univ)
      (halfV I c 1 0 hop) (halfV I c 1 1 hop)) Finset.univ

theorem stV_acc (c : Dev nD) (hop : Fin 4) (f : outM.view.ty.Contents (Elt F)) (b : Fin 2)
    (hf : ∀ n, hop.val = n + 1 → (outM.access (xRect b)).read (Elt F) f = accV I c b n) :
    stV (hop = 0) b f (halfV I c b 0 hop) (halfV I c b 1 hop) = accV I c b hop.val := by
  rcases hop with ⟨n, hn⟩
  rcases n with _ | n
  · rfl
  · show nextOf _ _ _ = nextOf _ _ _
    rw [hf n rfl]
    have e : Fin.ofNat 4 (n + 1) = (⟨n + 1, hn⟩ : Fin 4) := Fin.ext (Nat.mod_eq_of_lt hn)
    rw [e]

theorem outNext_acc (c : Dev nD) (hop : Fin 4) (f : outM.view.ty.Contents (Elt F))
    (hf : ∀ n, hop.val = n + 1 → ∀ b, (outM.access (xRect b)).read (Elt F) f = accV I c b n) (b : Fin 2) :
    (outM.access (xRect b)).read (Elt F) (outNext I c hop f) = accV I c b hop.val := by
  match b with
  | 0 => exact ((out_other (by decide) _ _).trans (out_same 0 _ _)).trans (stV_acc I c hop f 0 (fun n h => hf n h 0))
  | 1 => exact (out_same 1 _ _).trans (stV_acc I c hop _ 1 (fun n h => (out_other (by decide) _ _).trans (hf n h 1)))

/-- The result buffer before hop `hop`, whichever it is. -/
theorem outSt_open (c : Dev nD) (m : ℕ) : outSt I c m ⊢ (iprop(∃ f : Buf (Elt F) (outM.view.loc (c : Thread nD τ)),
      ⌜∀ n, m = n + 1 → ∀ b, (outM.access (xRect b)).read (Elt F) f = accV I c b n⌝ ∗ pt c outM f) : sProp 𝕄) := by
  cases m with
  | zero =>
    show iprop(∃ f : Buf (Elt F) (outM.view.loc (c : Thread nD τ)), pt c outM f) ⊢ _
    iintro ⟨%f, Ho⟩
    iexists f
    isplitr
    · ipureintro; intro n h; exact absurd h (by omega)
    iexact Ho
  | succ k =>
    show iprop(∃ f : Buf (Elt F) (outM.view.loc (c : Thread nD τ)), ⌜∀ b, (outM.access (xRect b)).read (Elt F) f = accV I c b k⌝ ∗ pt c outM f) ⊢ _
    iintro ⟨%f, %hf, Ho⟩
    iexists f
    isplitr
    · ipureintro; intro n h b; obtain rfl : k = n := by omega
      exact hf b
    iexact Ho

/-- A hop's compute takes the result from `hop` hops to one more. -/
theorem computeP_wp (s : Fin 2) (c : Dev nD) (hop : Fin 4) (p : PosShare TreeShare) (Kt : PUnit → sProp 𝕄) :
    iprop(stage I c ∗ pairs I c s p hop.val ∗ outSt I c hop.val
      ∗ (stage I c -∗ pairs I c s p hop.val -∗ outSt I c (hop.val + 1) -∗ Kt ⟨⟩))
      ⊢ runs c (computeP (hop = 0) s c hop) Kt := by
  unfold computeP runs
  simp only [wp_bind]
  iintro ⟨Hs, Hp, Ho, HK⟩
  ihave Ho := (outSt_open I c hop.val) $$ Ho
  icases Ho with ⟨%f, %hf, Ho⟩
  iapply (batchP_wp I _ 0 s c hop p f)
  isplitl [Hs]; · iexact Hs
  isplitl [Hp]; · iexact Hp
  isplitl [Ho]; · iexact Ho
  iintro Hs Hp Ho
  iapply (batchP_wp I _ 1 s c hop p _)
  isplitl [Hs]; · iexact Hs
  isplitl [Hp]; · iexact Hp
  isplitl [Ho]; · iexact Ho
  iintro Hs Hp Ho
  iapply HK $$ Hs Hp [Ho]
  unfold outSt
  iexists (outNext I c hop f)
  isplitr
  · ipureintro; exact outNext_acc I c hop f hf
  iexact Ho

end Cert.Kernel.Gen
-- ==== Proof.Hop.lean ====
module

public import proofs.«01_k».proof.Proof.Compute

@[expose] public section

/-! # One hop, run

The hand-shake, the four copies, and the waits of a hop, then the hop as a whole: it takes the slots from the
shards of hop `h` to those of hop `h + 1` and the result from `h` hops to one more. -/

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## The cells and their invariants -/

/-- The sixteen copy semaphores of a device. -/
abbrev ringSem (k : Fin 16) : SemLoc sig := .dma ⟨6 + k.val, by revert k; decide⟩
theorem ringSem_inj : Function.Injective ringSem := by decide

def barEmb : Dev nD ↪ GSem nD τ sig := ⟨fun c => barCell c, fun _ _ h => congrArg (fun g : GSem nD τ sig => g.1.1) h⟩
def dmaEmb : Dev nD × Fin 16 ↪ GSem nD τ sig :=
  ⟨fun p => ((p.1 : Thread nD τ), ringSem p.2), fun _ _ h =>
    Prod.ext (congrArg (fun g : GSem nD τ sig => g.1.1) h) (ringSem_inj (congrArg Prod.snd h))⟩
abbrev barCells : Finset (GSem nD τ sig) := Finset.univ.map barEmb
abbrev dmaCells : Finset (GSem nD τ sig) := Finset.univ.map dmaEmb

/-- Every cell's invariant, under one map of names. -/
def Invs (K : GSem nD τ sig → ℕ) : sProp 𝕄 := bigSep (barCells ∪ dmaCells) fun g => cellInv ER (ringRd I) (K g) g
instance Invs_persistent (K) : BI.Persistent (Invs I K) := by unfold Invs; infer_instance

theorem bar_mem (c : Dev nD) : barCell c ∈ (barCells ∪ dmaCells : Finset (GSem nD τ sig)) :=
  Finset.mem_union_left _ (Finset.mem_map_of_mem barEmb (Finset.mem_univ c))
theorem dma_mem (c : Dev nD) (i : DmaSem sig) (h : 6 ≤ i.val) : ((c : Thread nD τ), SemLoc.dma i) ∈ (barCells ∪ dmaCells : Finset (GSem nD τ sig)) := by
  have hi : i.val < 22 := i.isLt
  have e : ((c : Thread nD τ), SemLoc.dma i) = dmaEmb (c, ⟨i.val - 6, by omega⟩) :=
    Prod.ext rfl (congrArg SemLoc.dma (Fin.ext (by show i.val = 6 + (i.val - 6); omega)))
  rw [e]
  exact Finset.mem_union_right _ (Finset.mem_map_of_mem dmaEmb (Finset.mem_univ _))

theorem inv_at (K : GSem nD τ sig → ℕ) {g : GSem nD τ sig} (hg : g ∈ (barCells ∪ dmaCells : Finset (GSem nD τ sig))) :
    Invs I K ⊢ cellInv ER (ringRd I) (K g) g := bigSep_elim hg
theorem inv_bar (K) (c : Dev nD) : Invs I K ⊢ cellInv ER (ringRd I) (K (barCell c)) (barCell c) := inv_at I K (bar_mem c)
theorem inv_qSend (K) (c : Dev nD) (sd s) : Invs I K ⊢ cellInv ER (ringRd I) (K (qSendC c sd s)) (qSendC c sd s) :=
  inv_at I K (dma_mem c _ (by show 6 ≤ 6 + 8 * sd.val + s.val; omega))
theorem inv_qRecv (K) (c : Dev nD) (sd s) : Invs I K ⊢ cellInv ER (ringRd I) (K (qRecvC c sd s)) (qRecvC c sd s) :=
  inv_at I K (dma_mem c _ (by show 6 ≤ 8 + 8 * sd.val + s.val; omega))
theorem inv_oSend (K) (c : Dev nD) (sd s) : Invs I K ⊢ cellInv ER (ringRd I) (K (oSendC c sd s)) (oSendC c sd s) :=
  inv_at I K (dma_mem c _ (by show 6 ≤ 10 + 8 * sd.val + s.val; omega))
theorem inv_oRecv (K) (c : Dev nD) (sd s) : Invs I K ⊢ cellInv ER (ringRd I) (K (oRecvC c sd s)) (oRecvC c sd s) :=
  inv_at I K (dma_mem c _ (by show 6 ≤ 12 + 8 * sd.val + s.val; omega))

/-! ## Halving a slot's share -/

theorem qOwn_halve (c : Dev nD) (sd s : Fin 2) (X : Vec F S768x256 .bf16) :
    (qOwn c sd s fullShare X : sProp 𝕄) ⊢ iprop(qOwn c sd s fullShare.left X ∗ qOwn c sd s fullShare.right X) := by
  unfold qOwn
  iintro ⟨%f, %hf, H⟩
  ihave H := (pointsTo_share (PosShare.mem_left_op_right fullShare)).1 $$ H
  icases H with ⟨H1, H2⟩
  isplitl [H1]
  · iexists f
    isplitr; · ipureintro; exact hf
    iexact H1
  · iexists f
    isplitr; · ipureintro; exact hf
    iexact H2
theorem oOwn_halve (c : Dev nD) (sd s : Fin 2) (X : Vec F S256x768 .bf16) :
    (oOwn c sd s fullShare X : sProp 𝕄) ⊢ iprop(oOwn c sd s fullShare.left X ∗ oOwn c sd s fullShare.right X) := by
  unfold oOwn
  iintro ⟨%f, %hf, H⟩
  ihave H := (pointsTo_share (PosShare.mem_left_op_right fullShare)).1 $$ H
  icases H with ⟨H1, H2⟩
  isplitl [H1]
  · iexists f
    isplitr; · ipureintro; exact hf
    iexact H1
  · iexists f
    isplitr; · ipureintro; exact hf
    iexact H2

/-- Two half shares of a set, at contents that need not be one function, are the whole share. -/
theorem pts_join {ℓ : Loc nD τ sig} {S : Finset (Idx ℓ)} (f g : Buf (Elt F) ℓ) :
    iprop((ℓ ↦[S]{fullShare.left} f) ∗ ℓ ↦[S]{fullShare.right} g) ⊢ (iprop(∃ h, ℓ ↦[S]{fullShare} h) : sProp 𝕄) := by
  iintro H
  ihave H := (persistent_entails_right pointsTo_agree) $$ H
  icases H with ⟨%h, H1, H2⟩
  iexists f
  ihave H2 := (Entails.of_eq (pointsTo_congr (f := g) (g := f) (fun i hi => ((h i (Finset.mem_inter.mpr ⟨hi, hi⟩)).1).symm))) $$ H2
  iapply (pointsTo_share (PosShare.mem_left_op_right fullShare)).2
  isplitl [H1]; · iexact H1
  iexact H2

theorem qOwn_join (c : Dev nD) (sd s : Fin 2) (X Y : Vec F S768x256 .bf16) :
    iprop(qOwn c sd s fullShare.left X ∗ qOwn c sd s fullShare.right Y) ⊢ (qAny c sd s : sProp 𝕄) := by
  unfold qOwn qAny
  iintro ⟨⟨%f, -, H1⟩, %g, -, H2⟩
  iapply (pts_join f g)
  isplitl [H1]; · iexact H1
  iexact H2
theorem oOwn_join (c : Dev nD) (sd s : Fin 2) (X Y : Vec F S256x768 .bf16) :
    iprop(oOwn c sd s fullShare.left X ∗ oOwn c sd s fullShare.right Y) ⊢ (oAny c sd s : sProp 𝕄) := by
  unfold oOwn oAny
  iintro ⟨⟨%f, -, H1⟩, %g, -, H2⟩
  iapply (pts_join f g)
  isplitl [H1]; · iexact H1
  iexact H2

/-- A slot pair with its contents forgotten. -/
def anyPair (c : Dev nD) (sd s : Fin 2) : sProp 𝕄 := iprop(qAny (F := F) c sd s ∗ oAny c sd s)

theorem pair_halve (c : Dev nD) (sd s : Fin 2) (h : ℕ) :
    pairAt I c sd s fullShare h ⊢ iprop(pairAt I c sd s fullShare.left h ∗ pairAt I c sd s fullShare.right h) := by
  unfold pairAt
  iintro ⟨Hq, Ho⟩
  ihave Hq := (qOwn_halve c sd s _) $$ Hq
  ihave Ho := (oOwn_halve c sd s _) $$ Ho
  icases Hq with ⟨Hq1, Hq2⟩
  icases Ho with ⟨Ho1, Ho2⟩
  isplitl [Hq1 Ho1]
  · isplitl [Hq1]; · iexact Hq1
    iexact Ho1
  · isplitl [Hq2]; · iexact Hq2
    iexact Ho2
theorem pair_join (c : Dev nD) (sd s : Fin 2) (h h' : ℕ) :
    iprop(pairAt I c sd s fullShare.left h ∗ pairAt I c sd s fullShare.right h') ⊢ anyPair c sd s := by
  unfold pairAt anyPair
  iintro ⟨⟨Hq1, Ho1⟩, Hq2, Ho2⟩
  isplitl [Hq1 Hq2]
  · iapply (qOwn_join c sd s)
    isplitl [Hq1]; · iexact Hq1
    iexact Hq2
  · iapply (oOwn_join c sd s)
    isplitl [Ho1]; · iexact Ho1
    iexact Ho2

/-! ## The hand-shake -/

/-- The tokens of the two signals of hop `h`. -/
def barToks (c : Dev nD) (h : Fin 3) : sProp 𝕄 :=
  iprop(dutyTok ER (barCell (prv 0 c)) h.val 0 ∗ dutyTok ER (barCell (prv 1 c)) h.val 1)
/-- Both neighbours' barriers have come to hop `h`. -/
def nbrs (c : Dev nD) (h : ℕ) : sProp 𝕄 :=
  iprop(reached ER (barCell (prv 0 c)) h ∗ reached ER (barCell (prv 1 c)) h)

/-- What a device hands its neighbour: the pair of slots to fill, and where their arrival cells stand. -/
def offer (c : Dev nD) (h : Fin 3) (sd : Fin 2) : sProp 𝕄 :=
  iprop(anyPair (F := F) c sd (rl h) ∗ reached ER (qRecvC c sd (rl h)) (rd h) ∗ reached ER (oRecvC c sd (rl h)) (rd h))

theorem barPay_offer (c : Dev nD) (h : Fin 3) (sd : Fin 2) : barPay (F := F) c h sd = offer (nxt sd c) h sd := rfl

theorem meetP_wp (K : GSem nD τ sig → ℕ) (c : Dev nD) (h : Fin 3) {O : CellTallies nD τ sig ℕ} (hO : Above (2 * h.val + 1) O)
    (W : Waits sig ℕ) (Kt : PUnit → sProp 𝕄) :
    iprop(Invs I K ∗ levAts L lv ∗ atPos ER (barCell c) h.val ∅ 0 ∗ nbrs c h.val ∗ barToks c h
        ∗ cred (tallyAt (barCell c) (2 * h.val + 1) 2) ∗ (offer c h 0 ∗ offer c h 1) ∗ owes (c : Thread nD τ) (oweB c h 0 (oweB c h 1 O)) W
        ∗ (∀ W', (atPos ER (barCell c) (h.val + 1) ∅ 0 ∗ reached ER (barCell c) (h.val + 1) ∗ offer (nxt 0 c) h 0 ∗ offer (nxt 1 c) h 1
            ∗ owes (c : Thread nD τ) O W') -∗ Kt ⟨⟩))
      ⊢ runs c (meetP (prv 0 c) (prv 1 c)) Kt := by
  unfold meetP runs semSignalWord semWaitWord barToks nbrs
  simp only [Prog.lift, Prog.bind_op, Prog.bind_ret]
  iintro ⟨#HI, #Hlev, Hat, ⟨#Hr0, #Hr1⟩, ⟨Ht0, Ht1⟩, Hc, ⟨Hp0, Hp1⟩, HO, HK⟩
  iapply (Rounds.wp_signal 𝒱₀ ER (ringRd I) (c : Thread nD τ) none (dst := (prv 0 c : Thread nD τ)) (sem := barSem) (r := h.val) (d := (0 : Fin 2)) (k' := 1)
    (κ := K (barCell (prv 0 c))) (by rw [duties_bar]; exact Finset.mem_univ _) rfl (2 * h.val + 1) (oweB c h 1 O) rfl) $$ [HO Ht0 Hp0]
  · isplitr; · iapply (inv_bar I K (prv 0 c)); iexact HI
    isplitl [HO]; · iexact HO
    isplitl [Ht0]; · iexact Ht0
    isplitl [Hp0]
    · rw [payload_bar, barPay_offer, nxt_prv]; iexact Hp0
    iexact Hr0
  iintro HO
  iapply (Rounds.wp_signal 𝒱₀ ER (ringRd I) (c : Thread nD τ) none (dst := (prv 1 c : Thread nD τ)) (sem := barSem) (r := h.val) (d := (1 : Fin 2)) (k' := 1)
    (κ := K (barCell (prv 1 c))) (by rw [duties_bar]; exact Finset.mem_univ _) rfl (2 * h.val + 1) O rfl) $$ [HO Ht1 Hp1]
  · isplitr; · iapply (inv_bar I K (prv 1 c)); iexact HI
    isplitl [HO]; · iexact HO
    isplitl [Ht1]; · iexact Ht1
    isplitl [Hp1]
    · rw [payload_bar, barPay_offer, nxt_prv]; iexact Hp1
    iexact Hr1
  iintro HO
  iapply (Rounds.wp_wait_rest_token 𝒱₀ ER (ringRd I) (c : Thread nD τ) none (κ := K (barCell c))
    (wpE_semWait_eq 𝒱₀ (c : Thread nD τ) none Set.univ) (Set.mem_univ _) (2 * h.val + 1) (O := O) (W := W) (R := h.val) (m := 0) (T := ∅)
    ((Nat.zero_add _).trans (expect_bar I c h).symm)) $$ [Hc HO Hat]
  · isplitr; · iapply (inv_bar I K c); iexact HI
    isplitl [Hc]; · iexact Hc
    isplitl [HO]; · iexact HO
    isplitr; · iapply (mayWait (by have := h.isLt; omega) hO (.reg barSem)); iexact Hlev
    iexact Hat
  iintro ⟨HO, Hat, #Hr, Hpay⟩
  ihave Hp := (Entails.of_eq (rest_bar I c h)) $$ Hpay
  rw [barPay_offer, barPay_offer]
  icases Hp with ⟨Hp0, Hp1⟩
  rw [wp_ret]
  imodintro
  iapply HK
  isplitl [Hat]; · iexact Hat
  isplitr; · iexact Hr
  isplitl [Hp0]; · iexact Hp0
  isplitl [Hp1]; · iexact Hp1
  iexact HO

/-! ## The copies -/

/-- The tokens of one half's two copies of hop `h`. -/
def sendToks (c : Dev nD) (h : Fin 3) (sd : Fin 2) : sProp 𝕄 :=
  iprop((dutyTok ER (qSendC c sd (sl h)) (rd h) 0 ∗ dutyTok ER (qRecvC (nxt sd c) sd (rl h)) (rd h) 0)
    ∗ dutyTok ER (oSendC c sd (sl h)) (rd h) 0 ∗ dutyTok ER (oRecvC (nxt sd c) sd (rl h)) (rd h) 0)

/-- Where one half's four cells of hop `h` stand. -/
def posH (c : Dev nD) (h : Fin 3) (sd : Fin 2) (n : ℕ) : sProp 𝕄 :=
  iprop((atPos ER (qSendC c sd (sl h)) n ∅ 0 ∗ atPos ER (qRecvC c sd (rl h)) n ∅ 0
      ∗ atPos ER (oSendC c sd (sl h)) n ∅ 0 ∗ atPos ER (oRecvC c sd (rl h)) n ∅ 0)
    ∗ reached ER (qSendC c sd (sl h)) n ∗ reached ER (qRecvC c sd (rl h)) n
      ∗ reached ER (oSendC c sd (sl h)) n ∗ reached ER (oRecvC c sd (rl h)) n)

theorem posH_dup (c : Dev nD) (h : Fin 3) (sd : Fin 2) (n : ℕ) : (posH c h sd n : sProp 𝕄) ⊢ iprop(posH c h sd n
    ∗ (reached ER (qSendC c sd (sl h)) n ∗ reached ER (qRecvC c sd (rl h)) n
      ∗ reached ER (oSendC c sd (sl h)) n ∗ reached ER (oRecvC c sd (rl h)) n)) := by
  unfold posH
  iintro ⟨Ha, #Hr⟩
  isplitl [Ha]
  · isplitl [Ha]; · iexact Ha
    iexact Hr
  iexact Hr

theorem qAmount (sd : Fin 2) (h : Fin 3) : (qSlot sd (rl h)).view.amount (.dma (qRecv sd (rl h))) = NQ := by
  fin_cases sd <;> fin_cases h <;> rfl
theorem oAmount (sd : Fin 2) (h : Fin 3) : (oSlot sd (rl h)).view.amount (.dma (oRecv sd (rl h))) = NO := by
  fin_cases sd <;> fin_cases h <;> rfl

theorem sendP_wp (K : GSem nD τ sig → ℕ) (c : Dev nD) (h : Fin 3) (sd : Fin 2) (O : CellTallies nD τ sig ℕ)
    (W : Waits sig ℕ) (Kt : PUnit → sProp 𝕄) :
    iprop(Invs I K ∗ pairAt I c sd (sl h) fullShare.left h.val ∗ offer (nxt sd c) h sd ∗ reached ER (barCell c) (h.val + 1)
        ∗ (reached ER (qSendC c sd (sl h)) (rd h) ∗ reached ER (oSendC c sd (sl h)) (rd h)) ∗ sendToks c h sd
        ∗ owes (c : Thread nD τ) (oweQ c h sd (oweO c h sd O)) W
        ∗ ((cred (tallyAt (qSendC c sd (sl h)) 0 NQ) ∗ cred (tallyAt (oSendC c sd (sl h)) 0 NO) ∗ owes (c : Thread nD τ) O W) -∗ Kt ⟨⟩))
      ⊢ runs c (sendP sd (sl h) (rl h) (nxt sd c) (nxt sd c)) Kt := by
  unfold sendP runs pairAt offer anyPair sendToks qOwn oOwn qAny oAny
  simp only [Prog.lift, Prog.bind_op, Prog.bind_ret]
  iintro ⟨#HI, ⟨⟨%fq, %hq, Hq⟩, %fo, %ho, Ho⟩, ⟨⟨⟨%gq, Hgq⟩, %go, Hgo⟩, #Hrq, #Hro⟩, #Hb, ⟨#Hsq, #Hso⟩, ⟨⟨Htq, Htq'⟩, Hto, Hto'⟩, HO, HK⟩
  iapply (Rounds.wp_send_pointsTo_with 𝒱₀ ER (ringRd I) (c : Thread nD τ) none (c' := (nxt sd c : Thread nD τ)) (src := qSlot sd (sl h)) (dst := qSlot sd (rl h))
      (sS := .dma (qSend sd (sl h))) (sem := .dma (qRecv sd (rl h))) (q := fullShare.left) (fs := fq) (fd := gq)
      (F := reached ER (barCell c) (h.val + 1)) (κ₁ := K (qSendC c sd (sl h))) (κ₂ := K (qRecvC (nxt sd c) sd (rl h)))
      (r₁ := rd h) (r₂ := rd h) (d₁ := (0 : Fin 2)) (d₂ := (0 : Fin 2))
      (by rw [duties_qSend]; exact Finset.mem_singleton_self _) (by rw [duties_qRecv]; exact Finset.mem_singleton_self _)
      (2 * h.val + 2) 0 NQ (qAmount sd h) (amount_qSend I c sd _ _ _) (amount_qRecv I (nxt sd c) sd _ _ _) (oweO c h sd O) rfl (W := W)
      (by
        rw [payload_qSend]; unfold qSendPay qOwn
        iintro H; iexists fq
        isplitr; · ipureintro; exact hq
        iexact H)
      (by
        rw [payload_qRecv]; unfold qRecvPay qOwn
        rw [hold_nxt, prv_nxt]
        iintro ⟨H, H2⟩
        isplitl [H]
        · iexists _
          isplitr; swap; · iexact H
          ipureintro; exact (View.read_write_univ _ _).trans hq
        iexact H2)) $$ [Hq Hgq HO Htq Htq']
  · isplitr; · iapply (inv_qSend I K c); iexact HI
    isplitr; · iapply (inv_qRecv I K (nxt sd c)); iexact HI
    isplitl [Hq]; · iexact Hq
    isplitl [Hgq]
    · isplitl [Hgq]; · iexact Hgq
      iexact Hb
    isplitl [HO]; · iexact HO
    isplitl [Htq]; · iexact Htq
    isplitr; · iexact Hsq
    isplitl [Htq']; · iexact Htq'
    iexact Hrq
  iintro ⟨Hcq, HO⟩
  iapply (Rounds.wp_send_pointsTo 𝒱₀ ER (ringRd I) (c : Thread nD τ) none (c' := (nxt sd c : Thread nD τ)) (src := oSlot sd (sl h)) (dst := oSlot sd (rl h))
      (sS := .dma (oSend sd (sl h))) (sem := .dma (oRecv sd (rl h))) (q := fullShare.left) (fs := fo) (fd := go)
      (κ₁ := K (oSendC c sd (sl h))) (κ₂ := K (oRecvC (nxt sd c) sd (rl h)))
      (r₁ := rd h) (r₂ := rd h) (d₁ := (0 : Fin 2)) (d₂ := (0 : Fin 2))
      (by rw [duties_oSend]; exact Finset.mem_singleton_self _) (by rw [duties_oRecv]; exact Finset.mem_singleton_self _)
      (2 * h.val + 2) 0 NO (oAmount sd h) (amount_oSend I c sd _ _ _) (amount_oRecv I (nxt sd c) sd _ _ _) O rfl (W := W)
      (by
        rw [payload_oSend]; unfold oSendPay oOwn
        iintro H; iexists fo
        isplitr; · ipureintro; exact ho
        iexact H)
      (by
        rw [payload_oRecv]; unfold oRecvPay oOwn
        rw [hold_nxt]
        iintro H
        iexists _
        isplitr; swap; · iexact H
        ipureintro; exact (View.read_write_univ _ _).trans ho)) $$ [Ho Hgo HO Hto Hto']
  · isplitr; · iapply (inv_oSend I K c); iexact HI
    isplitr; · iapply (inv_oRecv I K (nxt sd c)); iexact HI
    isplitl [Ho]; · iexact Ho
    isplitl [Hgo]; · iexact Hgo
    isplitl [HO]; · iexact HO
    isplitl [Hto]; · iexact Hto
    isplitr; · iexact Hso
    isplitl [Hto']; · iexact Hto'
    iexact Hro
  iintro ⟨Hco, HO⟩
  rw [wp_ret]
  imodintro
  iapply HK
  isplitl [Hcq]; · iexact Hcq
  isplitl [Hco]; · iexact Hco
  iexact HO

/-! ## The waits -/

/-- The credit of one half's two arrivals at hop `h`. -/
def recvCreds (c : Dev nD) (h : Fin 3) (sd : Fin 2) : sProp 𝕄 :=
  iprop(cred (tallyAt (qRecvC c sd (rl h)) (2 * h.val + 2) NQ) ∗ cred (tallyAt (oRecvC c sd (rl h)) (2 * h.val + 2) NO))

theorem qCredit (sd s : Fin 2) : (qSlot sd s).view.dmaCredit = NQ := by fin_cases sd <;> fin_cases s <;> rfl
theorem oCredit (sd s : Fin 2) : (oSlot sd s).view.dmaCredit = NO := by fin_cases sd <;> fin_cases s <;> rfl

theorem awaitP_wp (K : GSem nD τ sig → ℕ) (c : Dev nD) (h : Fin 3) (sd : Fin 2) {O : CellTallies nD τ sig ℕ} (hO : Above (2 * h.val + 2) O)
    (W : Waits sig ℕ) (Kt : PUnit → sProp 𝕄) :
    iprop(Invs I K ∗ levAts L lv ∗ (cred (tallyAt (qSendC c sd (sl h)) 0 NQ) ∗ cred (tallyAt (oSendC c sd (sl h)) 0 NO))
        ∗ recvCreds c h sd ∗ posH c h sd (rd h) ∗ owes (c : Thread nD τ) O W
        ∗ (∀ W', (posH c h sd (rd h + 1) ∗ pairAt I c sd (sl h) fullShare.left h.val ∗ pairAt I c sd (rl h) fullShare (h.val + 1)
            ∗ reached ER (barCell (prv sd c)) (h.val + 1) ∗ owes (c : Thread nD τ) O W') -∗ Kt ⟨⟩))
      ⊢ runs c (awaitP sd (sl h) (rl h)) Kt := by
  unfold awaitP runs recvCreds posH
  simp only [Prog.lift, Prog.bind_op, Prog.bind_ret]
  have h3 := h.isLt
  iintro ⟨#HI, #Hlev, ⟨Hcq, Hco⟩, ⟨Hcq', Hco'⟩, ⟨⟨Ha1, Ha2, Ha3, Ha4⟩, -⟩, HO, HK⟩
  iapply (Rounds.wp_wait_rest_token 𝒱₀ ER (ringRd I) (c : Thread nD τ) none (κ := K (qSendC c sd (sl h)))
    (wpE_waitDma2_eq 𝒱₀ (c : Thread nD τ) none Set.univ) (Set.mem_univ _) 0 (O := O) (W := W) (R := rd h) (m := 0) (T := ∅)
    ((Nat.zero_add _).trans ((qCredit sd _).trans (expect_qSend I c sd h).symm))) $$ [Hcq HO Ha1]
  · isplitr; · iapply (inv_qSend I K c); iexact HI
    isplitl [Hcq]; · rw [qCredit]; iexact Hcq
    isplitl [HO]; · iexact HO
    isplitr; · iapply (mayWait (by omega) (hO.mono (Nat.zero_le _)) _); iexact Hlev
    iexact Ha1
  iintro ⟨HO, Ha1, #Hr1, Hpay⟩
  ihave Hq := (Entails.of_eq (rest_qSend I c sd h)) $$ Hpay
  iapply (Rounds.wp_wait_rest_token 𝒱₀ ER (ringRd I) (c : Thread nD τ) none (κ := K (qRecvC c sd (rl h)))
    (wpE_waitDma2_eq 𝒱₀ (c : Thread nD τ) none Set.univ) (Set.mem_univ _) (2 * h.val + 2) (O := O) (R := rd h) (m := 0) (T := ∅)
    ((Nat.zero_add _).trans ((qCredit sd _).trans (expect_qRecv I c sd h).symm))) $$ [Hcq' HO Ha2]
  · isplitr; · iapply (inv_qRecv I K c); iexact HI
    isplitl [Hcq']; · rw [qCredit]; iexact Hcq'
    isplitl [HO]; · iexact HO
    isplitr; · iapply (mayWait (by omega) hO _); iexact Hlev
    iexact Ha2
  iintro ⟨HO, Ha2, #Hr2, Hpay⟩
  ihave Hq' := (Entails.of_eq (rest_qRecv I c sd h)) $$ Hpay
  iapply (Rounds.wp_wait_rest_token 𝒱₀ ER (ringRd I) (c : Thread nD τ) none (κ := K (oSendC c sd (sl h)))
    (wpE_waitDma2_eq 𝒱₀ (c : Thread nD τ) none Set.univ) (Set.mem_univ _) 0 (O := O) (R := rd h) (m := 0) (T := ∅)
    ((Nat.zero_add _).trans ((oCredit sd _).trans (expect_oSend I c sd h).symm))) $$ [Hco HO Ha3]
  · isplitr; · iapply (inv_oSend I K c); iexact HI
    isplitl [Hco]; · rw [oCredit]; iexact Hco
    isplitl [HO]; · iexact HO
    isplitr; · iapply (mayWait (by omega) (hO.mono (Nat.zero_le _)) _); iexact Hlev
    iexact Ha3
  iintro ⟨HO, Ha3, #Hr3, Hpay⟩
  ihave Ho := (Entails.of_eq (rest_oSend I c sd h)) $$ Hpay
  iapply (Rounds.wp_wait_rest_token 𝒱₀ ER (ringRd I) (c : Thread nD τ) none (κ := K (oRecvC c sd (rl h)))
    (wpE_waitDma2_eq 𝒱₀ (c : Thread nD τ) none Set.univ) (Set.mem_univ _) (2 * h.val + 2) (O := O) (R := rd h) (m := 0) (T := ∅)
    ((Nat.zero_add _).trans ((oCredit sd _).trans (expect_oRecv I c sd h).symm))) $$ [Hco' HO Ha4]
  · isplitr; · iapply (inv_oRecv I K c); iexact HI
    isplitl [Hco']; · rw [oCredit]; iexact Hco'
    isplitl [HO]; · iexact HO
    isplitr; · iapply (mayWait (by omega) hO _); iexact Hlev
    iexact Ha4
  iintro ⟨HO, Ha4, #Hr4, Hpay⟩
  ihave Ho' := (Entails.of_eq (rest_oRecv I c sd h)) $$ Hpay
  rw [wp_ret]
  imodintro
  unfold qSendPay qRecvPay oSendPay oRecvPay pairAt
  icases Hq' with ⟨Hq', #Hb⟩
  iapply HK
  isplitl [Ha1 Ha2 Ha3 Ha4]
  · isplitl
    · isplitl [Ha1]; · iexact Ha1
      isplitl [Ha2]; · iexact Ha2
      isplitl [Ha3]; · iexact Ha3
      iexact Ha4
    isplitr; · iexact Hr1
    isplitr; · iexact Hr2
    isplitr; · iexact Hr3
    iexact Hr4
  isplitl [Hq Ho]
  · isplitl [Hq]; · iexact Hq
    iexact Ho
  isplitl [Hq' Ho']
  · isplitl [Hq']; · iexact Hq'
    iexact Ho'
  isplitr; · iexact Hb
  iexact HO

/-! ## The hop -/

/-- What the ring's ghost state of device `c` holds for hop `h` alone. -/
def fuel (c : Dev nD) (h : Fin 3) : sProp 𝕄 :=
  iprop(barToks c h ∗ (sendToks c h 0 ∗ sendToks c h 1) ∗ cred (tallyAt (barCell c) (2 * h.val + 1) 2)
    ∗ recvCreds c h 0 ∗ recvCreds c h 1)

/-- The slots before hop `h`: one pair of each half loaded, the other free. -/
def slots (c : Dev nD) (s r : Fin 2) (h : ℕ) : sProp 𝕄 :=
  iprop(pairs I c s fullShare h ∗ anyPair c 0 r ∗ anyPair c 1 r)

/-- Where both halves' cells of hop `h` stand. -/
def posG (c : Dev nD) (h : Fin 3) (n : ℕ) : sProp 𝕄 := iprop(posH c h 0 n ∗ posH c h 1 n)

theorem hopP_wp (K : GSem nD τ sig → ℕ) (c : Dev nD) (h : Fin 3) (hop : Fin 4) (hh : hop.val = h.val) {O : CellTallies nD τ sig ℕ}
    (hO : Above (2 * h.val + 2) O) (W : Waits sig ℕ) (Kt : PUnit → sProp 𝕄) :
    iprop(Invs I K ∗ levAts L lv ∗ fuel c h ∗ atPos ER (barCell c) h.val ∅ 0 ∗ nbrs c h.val ∗ posG c h (rd h)
        ∗ stage I c ∗ slots I c (sl h) (rl h) h.val ∗ outSt I c h.val ∗ owes (c : Thread nD τ) (oweH c h O) W
        ∗ (∀ W', (atPos ER (barCell c) (h.val + 1) ∅ 0 ∗ nbrs c (h.val + 1) ∗ posG c h (rd h + 1)
            ∗ stage I c ∗ slots I c (rl h) (sl h) (h.val + 1) ∗ outSt I c (h.val + 1) ∗ owes (c : Thread nD τ) O W') -∗ Kt ⟨⟩))
      ⊢ runs c (hopP (hop = 0) (sl h) (rl h) c hop (prv 0 c) (prv 1 c) (nxt 0 c) (nxt 0 c) (nxt 1 c) (nxt 1 c)) Kt := by
  unfold hopP runs fuel slots posG pairs
  simp only [wp_bind]
  have h3 := h.isLt
  iintro ⟨#HI, #Hlev, ⟨Hbt, ⟨Hst0, Hst1⟩, Hcb, Hrc0, Hrc1⟩, Hat, Hn, ⟨Hp0, Hp1⟩, Hs, ⟨⟨HA, HB⟩, Hf0, Hf1⟩, Ho, HO, HK⟩
  ihave Hp0 := (posH_dup c h 0 _) $$ Hp0
  icases Hp0 with ⟨Hp0, #Hr1, #Hr2, #Hr3, #Hr4⟩
  ihave Hp1 := (posH_dup c h 1 _) $$ Hp1
  icases Hp1 with ⟨Hp1, #Hr5, #Hr6, #Hr7, #Hr8⟩
  iapply (meetP_wp I K c h (O := oweC c h O) (above_oweC (hO.mono (by omega)) (by omega)) W)
  isplitr; · iexact HI
  isplitr; · iexact Hlev
  isplitl [Hat]; · iexact Hat
  isplitl [Hn]; · iexact Hn
  isplitl [Hbt]; · iexact Hbt
  isplitl [Hcb]; · iexact Hcb
  isplitl [Hf0 Hf1]
  · unfold offer
    isplitl [Hf0]
    · isplitl [Hf0]; · iexact Hf0
      isplitr; · iexact Hr2
      iexact Hr4
    · isplitl [Hf1]; · iexact Hf1
      isplitr; · iexact Hr6
      iexact Hr8
  isplitl [HO]; · iexact HO
  iintro %W1 ⟨Hat, #Hb, Hg0, Hg1, HO⟩
  ihave HA := (pair_halve I c 0 (sl h) h.val) $$ HA
  icases HA with ⟨HAl, HAr⟩
  ihave HB := (pair_halve I c 1 (sl h) h.val) $$ HB
  icases HB with ⟨HBl, HBr⟩
  iapply (sendP_wp I K c h 0 (oweQ c h 1 (oweO c h 1 O)) W1)
  isplitr; · iexact HI
  isplitl [HAl]; · iexact HAl
  isplitl [Hg0]; · iexact Hg0
  isplitr; · iexact Hb
  isplitr
  · isplitr; · iexact Hr1
    iexact Hr3
  isplitl [Hst0]; · iexact Hst0
  isplitl [HO]; · iexact HO
  iintro ⟨Hcq0, Hco0, HO⟩
  iapply (sendP_wp I K c h 1 O W1)
  isplitr; · iexact HI
  isplitl [HBl]; · iexact HBl
  isplitl [Hg1]; · iexact Hg1
  isplitr; · iexact Hb
  isplitr
  · isplitr; · iexact Hr5
    iexact Hr7
  isplitl [Hst1]; · iexact Hst1
  isplitl [HO]; · iexact HO
  iintro ⟨Hcq1, Hco1, HO⟩
  rw [← hh]
  iapply (computeP_wp I (sl h) c hop fullShare.right)
  isplitl [Hs]; · iexact Hs
  isplitl [HAr HBr]
  · unfold pairs
    isplitl [HAr]; · iexact HAr
    iexact HBr
  isplitl [Ho]; · iexact Ho
  iintro Hs Hp Ho
  unfold pairs
  icases Hp with ⟨HAr, HBr⟩
  rw [hh]
  iapply (awaitP_wp I K c h 0 hO W1)
  isplitr; · iexact HI
  isplitr; · iexact Hlev
  isplitl [Hcq0 Hco0]
  · isplitl [Hcq0]; · iexact Hcq0
    iexact Hco0
  isplitl [Hrc0]; · iexact Hrc0
  isplitl [Hp0]; · iexact Hp0
  isplitl [HO]; · iexact HO
  iintro %W2 ⟨Hp0, HAl, HA', #Hn0, HO⟩
  iapply (awaitP_wp I K c h 1 hO W2)
  isplitr; · iexact HI
  isplitr; · iexact Hlev
  isplitl [Hcq1 Hco1]
  · isplitl [Hcq1]; · iexact Hcq1
    iexact Hco1
  isplitl [Hrc1]; · iexact Hrc1
  isplitl [Hp1]; · iexact Hp1
  isplitl [HO]; · iexact HO
  iintro %W3 ⟨Hp1, HBl, HB', #Hn1, HO⟩
  iapply HK
  isplitl [Hat]; · iexact Hat
  isplitr
  · unfold nbrs
    isplitr; · iexact Hn0
    iexact Hn1
  isplitl [Hp0 Hp1]
  · isplitl [Hp0]; · iexact Hp0
    iexact Hp1
  isplitl [Hs]; · iexact Hs
  isplitl [HAl HAr HBl HBr HA' HB']
  · isplitl [HA' HB']
    · isplitl [HA']; · iexact HA'
      iexact HB'
    isplitl [HAl HAr]
    · iapply (pair_join I c 0 (sl h) h.val h.val)
      isplitl [HAl]; · iexact HAl
      iexact HAr
    · iapply (pair_join I c 1 (sl h) h.val h.val)
      isplitl [HBl]; · iexact HBl
      iexact HBr
  isplitl [Ho]; · iexact Ho
  iexact HO

end Cert.Kernel.Gen
-- ==== Proof.Body.lean ====
module

public import proofs.«01_k».proof.Proof.Hop
public import Idealize.ShloMosaic.Lib.Pipeline.Value

@[expose] public section

/-! # The whole body, run

The scratch buffers cut into slots, the mask and the device's own shards stored, the three hops that pass the
weights on, the last compute; then every cell closed. -/

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## A buffer as its two slots -/

theorem qRect_cover : (qRect 0).set ∪ (qRect 1).set = Finset.univ := by
  ext i
  simp only [Finset.mem_union, Rect.mem_set_unit, Finset.mem_univ, iff_true]
  have h0 : (i 0).val < 2 := (i 0).isLt
  have h1 : (i 1).val < 768 := (i 1).isLt
  have h2 : (i 2).val < 256 := (i 2).isLt
  by_cases h : (i 0).val = 0
  · left
    intro a
    match a with
    | ⟨0, _⟩ => exact ⟨Nat.zero_le _, by show (i 0).val < 0 + 1; omega⟩
    | ⟨1, _⟩ => exact ⟨Nat.zero_le _, by show (i 1).val < 0 + 768; omega⟩
    | ⟨2, _⟩ => exact ⟨Nat.zero_le _, by show (i 2).val < 0 + 256; omega⟩
  · right
    intro a
    match a with
    | ⟨0, _⟩ => exact ⟨by show 1 ≤ (i 0).val; omega, by show (i 0).val < 1 + 1; omega⟩
    | ⟨1, _⟩ => exact ⟨Nat.zero_le _, by show (i 1).val < 0 + 768; omega⟩
    | ⟨2, _⟩ => exact ⟨Nat.zero_le _, by show (i 2).val < 0 + 256; omega⟩
theorem oRect_cover : (oRect 0).set ∪ (oRect 1).set = Finset.univ := by
  ext i
  simp only [Finset.mem_union, Rect.mem_set_unit, Finset.mem_univ, iff_true]
  have h0 : (i 0).val < 2 := (i 0).isLt
  have h1 : (i 1).val < 256 := (i 1).isLt
  have h2 : (i 2).val < 768 := (i 2).isLt
  by_cases h : (i 0).val = 0
  · left
    intro a
    match a with
    | ⟨0, _⟩ => exact ⟨Nat.zero_le _, by show (i 0).val < 0 + 1; omega⟩
    | ⟨1, _⟩ => exact ⟨Nat.zero_le _, by show (i 1).val < 0 + 256; omega⟩
    | ⟨2, _⟩ => exact ⟨Nat.zero_le _, by show (i 2).val < 0 + 768; omega⟩
  · right
    intro a
    match a with
    | ⟨0, _⟩ => exact ⟨by show 1 ≤ (i 0).val; omega, by show (i 0).val < 1 + 1; omega⟩
    | ⟨1, _⟩ => exact ⟨Nat.zero_le _, by show (i 1).val < 0 + 256; omega⟩
    | ⟨2, _⟩ => exact ⟨Nat.zero_le _, by show (i 2).val < 0 + 768; omega⟩
theorem qRect_disj : Disjoint (qRect 0).set (qRect 1).set := by
  rw [Finset.disjoint_left]
  intro i h h'
  have := (Rect.mem_set_unit.mp h 0).2
  have := (Rect.mem_set_unit.mp h' 0).1
  have e : (i 0).val < 0 + 1 := (Rect.mem_set_unit.mp h 0).2
  have e' : 1 ≤ (i 0).val := (Rect.mem_set_unit.mp h' 0).1
  omega
theorem oRect_disj : Disjoint (oRect 0).set (oRect 1).set := by
  rw [Finset.disjoint_left]
  intro i h h'
  have e : (i 0).val < 0 + 1 := (Rect.mem_set_unit.mp h 0).2
  have e' : 1 ≤ (i 0).val := (Rect.mem_set_unit.mp h' 0).1
  omega

theorem qSlot_set (sd s : Fin 2) : (qSlot sd s).view.set = (qRect s).set.map (qBuf sd).view.emb :=
  (View.set_reshape _ _).trans (View.set_slice _ _)
theorem oSlot_set (sd s : Fin 2) : (oSlot sd s).view.set = (oRect s).set.map (oBuf sd).view.emb :=
  (View.set_reshape _ _).trans (View.set_slice _ _)
theorem qSlots_cover (sd : Fin 2) : (qSlot sd 0).view.set ∪ (qSlot sd 1).view.set = Finset.univ := by
  rw [qSlot_set, qSlot_set]
  exact (Finset.map_union _ _).symm.trans ((congrArg (Finset.map (qBuf sd).view.emb) qRect_cover).trans
    (match sd with | 0 => View.set_whole _ | 1 => View.set_whole _))
theorem oSlots_cover (sd : Fin 2) : (oSlot sd 0).view.set ∪ (oSlot sd 1).view.set = Finset.univ := by
  rw [oSlot_set, oSlot_set]
  exact (Finset.map_union _ _).symm.trans ((congrArg (Finset.map (oBuf sd).view.emb) oRect_cover).trans
    (match sd with | 0 => View.set_whole _ | 1 => View.set_whole _))
theorem qSlots_disj (sd : Fin 2) : Disjoint (qSlot sd 0).view.set (qSlot sd 1).view.set := by
  rw [qSlot_set, qSlot_set]; exact (Finset.disjoint_map _).mpr qRect_disj
theorem oSlots_disj (sd : Fin 2) : Disjoint (oSlot sd 0).view.set (oSlot sd 1).view.set := by
  rw [oSlot_set, oSlot_set]; exact (Finset.disjoint_map _).mpr oRect_disj

theorem qBuf_split (c : Dev nD) (sd : Fin 2) (f : Buf (Elt F) ((qBuf sd).view.loc (c : Thread nD τ))) :
    (pt c (qBuf sd) f : sProp 𝕄) ⊢ iprop(((qSlot sd 0).view.loc (c : Thread nD τ) ↦[(qSlot sd 0).view.set]{fullShare} f)
      ∗ ((qSlot sd 1).view.loc (c : Thread nD τ) ↦[(qSlot sd 1).view.set]{fullShare} f)) := by
  refine (Entails.of_eq ?_).trans (pointsTo_union (qSlots_disj sd)).1
  rw [qSlots_cover]
theorem oBuf_split (c : Dev nD) (sd : Fin 2) (f : Buf (Elt F) ((oBuf sd).view.loc (c : Thread nD τ))) :
    (pt c (oBuf sd) f : sProp 𝕄) ⊢ iprop(((oSlot sd 0).view.loc (c : Thread nD τ) ↦[(oSlot sd 0).view.set]{fullShare} f)
      ∗ ((oSlot sd 1).view.loc (c : Thread nD τ) ↦[(oSlot sd 1).view.set]{fullShare} f)) := by
  refine (Entails.of_eq ?_).trans (pointsTo_union (oSlots_disj sd)).1
  rw [oSlots_cover]
theorem qBuf_join (c : Dev nD) (sd : Fin 2) :
    iprop(qAny (F := F) c sd 0 ∗ qAny c sd 1) ⊢ (iprop(∃ f, pt c (qBuf sd) f) : sProp 𝕄) := by
  unfold qAny
  iintro ⟨⟨%f, H0⟩, %g, H1⟩
  iexists ((qSlot sd 1).view.set.piecewise g f)
  iapply (show iprop(((qSlot sd 0).view.loc (c : Thread nD τ) ↦[(qSlot sd 0).view.set]{fullShare} f)
      ∗ ((qSlot sd 1).view.loc (c : Thread nD τ) ↦[(qSlot sd 1).view.set]{fullShare} g))
      ⊢ (pt c (qBuf sd) ((qSlot sd 1).view.set.piecewise g f) : sProp 𝕄) from
    (pointsTo_join (qSlots_disj sd)).trans (Entails.of_eq (by rw [qSlots_cover])))
  isplitl [H0]; · iexact H0
  iexact H1
theorem oBuf_join (c : Dev nD) (sd : Fin 2) :
    iprop(oAny (F := F) c sd 0 ∗ oAny c sd 1) ⊢ (iprop(∃ f, pt c (oBuf sd) f) : sProp 𝕄) := by
  unfold oAny
  iintro ⟨⟨%f, H0⟩, %g, H1⟩
  iexists ((oSlot sd 1).view.set.piecewise g f)
  iapply (show iprop(((oSlot sd 0).view.loc (c : Thread nD τ) ↦[(oSlot sd 0).view.set]{fullShare} f)
      ∗ ((oSlot sd 1).view.loc (c : Thread nD τ) ↦[(oSlot sd 1).view.set]{fullShare} g))
      ⊢ (pt c (oBuf sd) ((oSlot sd 1).view.set.piecewise g f) : sProp 𝕄) from
    (pointsTo_join (oSlots_disj sd)).trans (Entails.of_eq (by rw [oSlots_cover])))
  isplitl [H0]; · iexact H0
  iexact H1

/-- A loaded slot's contents forgotten. -/
theorem qOwn_any (c : Dev nD) (sd s : Fin 2) (X : Vec F S768x256 .bf16) : (qOwn c sd s fullShare X : sProp 𝕄) ⊢ qAny c sd s := by
  unfold qOwn qAny
  iintro ⟨%f, -, H⟩
  iexists f
  iexact H
theorem oOwn_any (c : Dev nD) (sd s : Fin 2) (X : Vec F S256x768 .bf16) : (oOwn c sd s fullShare X : sProp 𝕄) ⊢ oAny c sd s := by
  unfold oOwn oAny
  iintro ⟨%f, -, H⟩
  iexists f
  iexact H

/-! ## The stores before the first hop -/

theorem setupP_wp (c : Dev nD) (f : Buf (Elt F) (maskM.view.loc (c : Thread nD τ))) (Kt : PUnit → sProp 𝕄) :
    iprop(pt c maskM f ∗ (∀ mf : Buf (Elt F) (maskM.view.loc (c : Thread nD τ)),
        ⌜(maskM.access mRect).read (Elt F) mf = maskOf (F := F)⌝ -∗ pt c maskM mf -∗ Kt ⟨⟩))
      ⊢ runs c setupP Kt := by
  unfold setupP runs
  simp only [Prog.lift, Prog.bind_op, Prog.bind_ret]
  iintro ⟨Hm, HK⟩
  iapply (wp_load_rect 𝒱₀ (c : Thread nD τ) none Set.univ (m := maskM) (r := mRect) (Finset.subset_univ _)) $$ Hm
  iintro Hm
  iapply (wp_store 𝒱₀ (c : Thread nD τ) none Set.univ (m := maskM) (r := mRect) (Finset.subset_univ _)) $$ Hm
  iintro Hm
  rw [wp_ret]
  imodintro
  iapply HK $$ [] Hm
  ipureintro
  exact View.read_write_univ _ _

theorem fillQ_wp (sd : Fin 2) (c : Dev nD) (f : Buf (Elt F) ((qBuf sd).view.loc (c : Thread nD τ))) (Kt : PUnit → sProp 𝕄) :
    iprop(pt c wqM (I.wq c) ∗ pt c (qBuf sd) f
        ∗ (pt c wqM (I.wq c) -∗ qOwn c sd 0 fullShare (wqHalf I sd (hold sd c 0)) -∗ qAny c sd 1 -∗ Kt ⟨⟩))
      ⊢ runs c (fillQ sd) Kt := by
  unfold fillQ runs
  simp only [Prog.lift, Prog.bind_op, Prog.bind_ret]
  iintro ⟨Hw, Hq, HK⟩
  iapply (wp_load_rect 𝒱₀ (c : Thread nD τ) none Set.univ (m := wqM) (r := wqRect sd) (Finset.subset_univ _)) $$ Hw
  iintro Hw
  iapply (wp_load_rect 𝒱₀ (c : Thread nD τ) none Set.univ (m := qBuf sd) (r := qRect 0) (Finset.subset_univ _)) $$ Hq
  iintro Hq
  iapply (wp_store 𝒱₀ (c : Thread nD τ) none Set.univ (m := qBuf sd) (r := qRect 0) (Finset.subset_univ _)) $$ Hq
  iintro Hq
  rw [wp_ret]
  imodintro
  ihave Hq := (qBuf_split c sd _) $$ Hq
  icases Hq with ⟨H0, H1⟩
  iapply HK $$ Hw [H0] [H1]
  · unfold qOwn
    iexists _
    isplitr; swap; · iexact H0
    ipureintro
    rw [hold_zero]
    show shapeCast S768x256 (((qBuf sd).access (qRect 0)).read (Elt F) (((qBuf sd).access (qRect 0)).write (Elt F) f
      (qFill ((wqM.access (wqRect sd)).read (Elt F) (I.wq c))) Finset.univ)) shapeCasts_S1x768x256_S768x256 = _
    rw [View.read_write_univ]
    unfold qFill
    exact (shapeCast_shapeCast _ _ _).trans (shapeCast_self _ _)
  · unfold qAny
    iexists _
    iexact H1

theorem fillO_wp (sd : Fin 2) (c : Dev nD) (f : Buf (Elt F) ((oBuf sd).view.loc (c : Thread nD τ))) (Kt : PUnit → sProp 𝕄) :
    iprop(pt c woM (I.wo c) ∗ pt c (oBuf sd) f
        ∗ (pt c woM (I.wo c) -∗ oOwn c sd 0 fullShare (woHalf I sd (hold sd c 0)) -∗ oAny c sd 1 -∗ Kt ⟨⟩))
      ⊢ runs c (fillO sd) Kt := by
  unfold fillO runs
  simp only [Prog.lift, Prog.bind_op, Prog.bind_ret]
  iintro ⟨Hw, Hq, HK⟩
  iapply (wp_load_rect 𝒱₀ (c : Thread nD τ) none Set.univ (m := woM) (r := woRect sd) (Finset.subset_univ _)) $$ Hw
  iintro Hw
  iapply (wp_load_rect 𝒱₀ (c : Thread nD τ) none Set.univ (m := oBuf sd) (r := oRect 0) (Finset.subset_univ _)) $$ Hq
  iintro Hq
  iapply (wp_store 𝒱₀ (c : Thread nD τ) none Set.univ (m := oBuf sd) (r := oRect 0) (Finset.subset_univ _)) $$ Hq
  iintro Hq
  rw [wp_ret]
  imodintro
  ihave Hq := (oBuf_split c sd _) $$ Hq
  icases Hq with ⟨H0, H1⟩
  iapply HK $$ Hw [H0] [H1]
  · unfold oOwn
    iexists _
    isplitr; swap; · iexact H0
    ipureintro
    rw [hold_zero]
    show shapeCast S256x768 (((oBuf sd).access (oRect 0)).read (Elt F) (((oBuf sd).access (oRect 0)).write (Elt F) f
      (oFill ((woM.access (woRect sd)).read (Elt F) (I.wo c))) Finset.univ)) shapeCasts_S1x256x768_S256x768 = _
    rw [View.read_write_univ]
    unfold oFill
    exact (shapeCast_shapeCast _ _ _).trans (shapeCast_self _ _)
  · unfold oAny
    iexists _
    iexact H1

/-! ## Closing the cells -/

/-- One half's four counters of hop `h`, at zero. -/
def zeroH (c : Dev nD) (h : Fin 3) (sd : Fin 2) : sProp 𝕄 :=
  iprop(semVal (qSendC c sd (sl h)) 0 ∗ semVal (qRecvC c sd (rl h)) 0 ∗ semVal (oSendC c sd (sl h)) 0 ∗ semVal (oRecvC c sd (rl h)) 0)

theorem hopOf_qSend : ∀ (sd s : Fin 2) (r : ℕ), hopOf (qSend sd s).val r = hopS s r := fun sd s r => by
  fin_cases sd <;> fin_cases s <;> rfl
theorem hopOf_qRecv : ∀ (sd s : Fin 2) (r : ℕ), hopOf (qRecv sd s).val r = hopR s r := fun sd s r => by
  fin_cases sd <;> fin_cases s <;> rfl
theorem hopOf_oSend : ∀ (sd s : Fin 2) (r : ℕ), hopOf (oSend sd s).val r = hopS s r := fun sd s r => by
  fin_cases sd <;> fin_cases s <;> rfl
theorem hopOf_oRecv : ∀ (sd s : Fin 2) (r : ℕ), hopOf (oRecv sd s).val r = hopR s r := fun sd s r => by
  fin_cases sd <;> fin_cases s <;> rfl

theorem posH_close (K : GSem nD τ sig → ℕ) (c : Dev nD) (h : Fin 3) (sd : Fin 2) (n : ℕ)
    (hn : ∀ r, n ≤ r → 3 ≤ hopS (sl h) r ∧ 3 ≤ hopR (rl h) r) :
    iprop(Invs I K ∗ posH c h sd n) ⊢ (iprop(|={Set.univ}=> zeroH c h sd) : sProp 𝕄) := by
  unfold posH zeroH
  iintro ⟨#HI, ⟨Ha1, Ha2, Ha3, Ha4⟩, -⟩
  imod (Rounds.cell_close ER (ringRd I) (Set.mem_univ (K (qSendC c sd (sl h)))) (fun h => h)
    (duties_dma_end I c (qSend sd (sl h)) n (fun r hr => by rw [hopOf_qSend]; exact (hn r hr).1))) $$ [Ha1] with H1
  · isplitr; · iapply (inv_qSend I K c); iexact HI
    iexact Ha1
  imod (Rounds.cell_close ER (ringRd I) (Set.mem_univ (K (qRecvC c sd (rl h)))) (fun h => h)
    (duties_dma_end I c (qRecv sd (rl h)) n (fun r hr => by rw [hopOf_qRecv]; exact (hn r hr).2))) $$ [Ha2] with H2
  · isplitr; · iapply (inv_qRecv I K c); iexact HI
    iexact Ha2
  imod (Rounds.cell_close ER (ringRd I) (Set.mem_univ (K (oSendC c sd (sl h)))) (fun h => h)
    (duties_dma_end I c (oSend sd (sl h)) n (fun r hr => by rw [hopOf_oSend]; exact (hn r hr).1))) $$ [Ha3] with H3
  · isplitr; · iapply (inv_oSend I K c); iexact HI
    iexact Ha3
  imod (Rounds.cell_close ER (ringRd I) (Set.mem_univ (K (oRecvC c sd (rl h)))) (fun h => h)
    (duties_dma_end I c (oRecv sd (rl h)) n (fun r hr => by rw [hopOf_oRecv]; exact (hn r hr).2))) $$ [Ha4] with H4
  · isplitr; · iapply (inv_oRecv I K c); iexact HI
    iexact Ha4
  imodintro
  isplitl [H1]; · iexact H1
  isplitl [H2]; · iexact H2
  isplitl [H3]; · iexact H3
  iexact H4

/-! ## The body -/

/-- The body past the device's number, its neighbours named by the ring. -/
def ringP (c : Dev nD) : TcProg F PUnit := do
  setupP
  fillQ 0
  fillQ 1
  fillO 0
  fillO 1
  hopP ((0 : Fin 4) = 0) (sl 0) (rl 0) c 0 (prv 0 c) (prv 1 c) (nxt 0 c) (nxt 0 c) (nxt 1 c) (nxt 1 c)
  hopP ((1 : Fin 4) = 0) (sl 1) (rl 1) c 1 (prv 0 c) (prv 1 c) (nxt 0 c) (nxt 0 c) (nxt 1 c) (nxt 1 c)
  hopP ((2 : Fin 4) = 0) (sl 2) (rl 2) c 2 (prv 0 c) (prv 1 c) (nxt 0 c) (nxt 0 c) (nxt 1 c) (nxt 1 c)
  computeP ((3 : Fin 4) = 0) 1 c 3

theorem bodyP_eq : bodyP (F := F) = .op TpuEff.deviceId fun c => ringP c := by
  unfold bodyP
  rw [Prog.bind_lift]
  refine congrArg (Prog.op TpuEff.deviceId) (funext fun c => ?_)
  rw [show (⟨k0_dev1 c, k0_dev1_lt c⟩ : Dev nD) = prv 0 c from Fin.ext (k0_dev1_eq c),
    show (⟨k0_dev2 c, k0_dev2_lt c⟩ : Dev nD) = prv 1 c from Fin.ext (k0_dev2_eq c),
    show (⟨k0_dev3 c, k0_dev3_lt c⟩ : Dev nD) = nxt 0 c from Fin.ext (k0_dev3_eq c),
    show (⟨k0_dev4 c, k0_dev4_lt c⟩ : Dev nD) = nxt 0 c from Fin.ext (k0_dev4_eq c),
    show (⟨k0_dev5 c, k0_dev5_lt c⟩ : Dev nD) = nxt 1 c from Fin.ext (k0_dev5_eq c),
    show (⟨k0_dev6 c, k0_dev6_lt c⟩ : Dev nD) = nxt 1 c from Fin.ext (k0_dev6_eq c),
    show (⟨k0_dev7 c, k0_dev7_lt c⟩ : Dev nD) = prv 0 c from Fin.ext (k0_dev7_eq c),
    show (⟨k0_dev8 c, k0_dev8_lt c⟩ : Dev nD) = prv 1 c from Fin.ext (k0_dev8_eq c),
    show (⟨k0_dev9 c, k0_dev9_lt c⟩ : Dev nD) = nxt 0 c from Fin.ext (k0_dev9_eq c),
    show (⟨k0_dev10 c, k0_dev10_lt c⟩ : Dev nD) = nxt 0 c from Fin.ext (k0_dev10_eq c),
    show (⟨k0_dev11 c, k0_dev11_lt c⟩ : Dev nD) = nxt 1 c from Fin.ext (k0_dev11_eq c),
    show (⟨k0_dev12 c, k0_dev12_lt c⟩ : Dev nD) = nxt 1 c from Fin.ext (k0_dev12_eq c),
    show (⟨k0_dev13 c, k0_dev13_lt c⟩ : Dev nD) = prv 0 c from Fin.ext (k0_dev13_eq c),
    show (⟨k0_dev14 c, k0_dev14_lt c⟩ : Dev nD) = prv 1 c from Fin.ext (k0_dev14_eq c),
    show (⟨k0_dev15 c, k0_dev15_lt c⟩ : Dev nD) = nxt 0 c from Fin.ext (k0_dev15_eq c),
    show (⟨k0_dev16 c, k0_dev16_lt c⟩ : Dev nD) = nxt 0 c from Fin.ext (k0_dev16_eq c),
    show (⟨k0_dev17 c, k0_dev17_lt c⟩ : Dev nD) = nxt 1 c from Fin.ext (k0_dev17_eq c),
    show (⟨k0_dev18 c, k0_dev18_lt c⟩ : Dev nD) = nxt 1 c from Fin.ext (k0_dev18_eq c)]
  rfl

/-- A scratch buffer, whole, at contents not chosen. -/
abbrev anyBuf (c : Dev nD) {sp : Space} {s : Shape} {e : EltTy} (m : Memref sig .tc sp s e) : sProp 𝕄 :=
  iprop(∃ f : Buf (Elt F) (m.view.loc (c : Thread nD τ)), pt c m f)

/-- The scratch buffers. -/
def scratch (c : Dev nD) : sProp 𝕄 :=
  iprop(anyBuf (F := F) c (qBuf 0) ∗ anyBuf (F := F) c (oBuf 0) ∗ anyBuf (F := F) c (qBuf 1) ∗ anyBuf (F := F) c (oBuf 1)
    ∗ anyBuf (F := F) c maskM ∗ anyBuf (F := F) c ctxM)

/-- The five input windows, as staged. -/
def inputs (c : Dev nD) : sProp 𝕄 :=
  iprop(pt c xM (I.x c) ∗ pt c wqM (I.wq c) ∗ pt c kM (I.k c) ∗ pt c vM (I.v c) ∗ pt c woM (I.wo c))

/-- The ring's ghost state of one device before the body: three hops' fuel and where every cell stands. -/
def ghost (K : GSem nD τ sig → ℕ) (c : Dev nD) : sProp 𝕄 :=
  iprop(Invs I K ∗ (fuel c 0 ∗ fuel c 1 ∗ fuel c 2) ∗ atPos ER (barCell c) 0 ∅ 0 ∗ nbrs c 0 ∗ posG c 0 0 ∗ posG c 1 0)

/-- All a device pays over the three hops. -/
abbrev oweAll (c : Dev nD) : CellTallies nD τ sig ℕ := oweH c 0 (oweH c 1 (oweH c 2 0))

/-- Every cell's counter of a device at zero. -/
def zeros (c : Dev nD) : sProp 𝕄 := iprop((zeroH (F := F) c 2 0 ∗ zeroH c 2 1) ∗ zeroH c 1 0 ∗ zeroH c 1 1)

set_option maxHeartbeats 1000000 in
theorem body_wp (K : GSem nD τ sig → ℕ) (c : Dev nD) (W : Waits sig ℕ) (Kt : PUnit → sProp 𝕄) :
    iprop(ghost I K c ∗ levAts L lv ∗ inputs I c ∗ anyBuf c outM ∗ scratch c ∗ owes (c : Thread nD τ) (oweAll c) W
        ∗ (∀ W', (semVal (barCell c) 0 ∗ zeros c ∗ inputs I c ∗ outSt I c 4 ∗ scratch c ∗ owes (c : Thread nD τ) 0 W') -∗ Kt ⟨⟩))
      ⊢ runs c bodyP Kt := by
  rw [bodyP_eq]
  unfold ghost inputs scratch ringP runs anyBuf
  simp only [wp_deviceId, wp_bind]
  iintro ⟨⟨#HI, ⟨Hf0, Hf1, Hf2⟩, Hat, Hn, HpA, HpB⟩, #Hlev, ⟨Hx, Hwq, Hk, Hv, Hwo⟩, Hout, ⟨⟨%s0, Hs0⟩, ⟨%s1, Hs1⟩, ⟨%s2, Hs2⟩, ⟨%s3, Hs3⟩, ⟨%s4, Hs4⟩, Hs5⟩, HO, HK⟩
  iapply (setupP_wp c s4)
  isplitl [Hs4]; · iexact Hs4
  iintro %mf %hm Hm
  iapply (fillQ_wp I 0 c s0)
  isplitl [Hwq]; · iexact Hwq
  isplitl [Hs0]; · iexact Hs0
  iintro Hwq Hq0 Hq0'
  iapply (fillQ_wp I 1 c s2)
  isplitl [Hwq]; · iexact Hwq
  isplitl [Hs2]; · iexact Hs2
  iintro Hwq Hq1 Hq1'
  iapply (fillO_wp I 0 c s1)
  isplitl [Hwo]; · iexact Hwo
  isplitl [Hs1]; · iexact Hs1
  iintro Hwo Ho0 Ho0'
  iapply (fillO_wp I 1 c s3)
  isplitl [Hwo]; · iexact Hwo
  isplitl [Hs3]; · iexact Hs3
  iintro Hwo Ho1 Ho1'
  have a2 : Above (2 * (2 : Fin 3).val + 2) 0 := above_zero _
  have a1 : Above (2 * (1 : Fin 3).val + 2) (oweH c 2 0) := above_oweH (above_zero _) (by decide)
  have a0 : Above (2 * (0 : Fin 3).val + 2) (oweH c 1 (oweH c 2 0)) := above_oweH (above_oweH (above_zero _) (by decide)) (by decide)
  iapply (hopP_wp I K c 0 0 rfl a0 W)
  isplitr; · iexact HI
  isplitr; · iexact Hlev
  isplitl [Hf0]; · iexact Hf0
  isplitl [Hat]; · iexact Hat
  isplitl [Hn]; · iexact Hn
  isplitl [HpA]; · iexact HpA
  isplitl [Hx Hk Hv Hm Hs5]
  · unfold stage
    isplitl [Hx]; · iexact Hx
    isplitl [Hk]; · iexact Hk
    isplitl [Hv]; · iexact Hv
    isplitl [Hm]
    · iexists mf
      isplitr; · ipureintro; exact hm
      iexact Hm
    iexact Hs5
  isplitl [Hq0 Hq0' Hq1 Hq1' Ho0 Ho0' Ho1 Ho1']
  · unfold slots pairs pairAt anyPair
    isplitl [Hq0 Hq1 Ho0 Ho1]
    · isplitl [Hq0 Ho0]
      · isplitl [Hq0]; · iexact Hq0
        iexact Ho0
      · isplitl [Hq1]; · iexact Hq1
        iexact Ho1
    · isplitl [Hq0' Ho0']
      · isplitl [Hq0']; · iexact Hq0'
        iexact Ho0'
      · isplitl [Hq1']; · iexact Hq1'
        iexact Ho1'
  isplitl [Hout]; · iapply (Entails.of_eq (show anyBuf c outM = outSt I c 0 from rfl)) $$ Hout
  isplitl [HO]; · iexact HO
  iintro %W1 ⟨Hat, Hn, HpA, Hs, Hsl, Hout, HO⟩
  iapply (hopP_wp I K c 1 1 rfl a1 W1)
  isplitr; · iexact HI
  isplitr; · iexact Hlev
  isplitl [Hf1]; · iexact Hf1
  isplitl [Hat]; · iexact Hat
  isplitl [Hn]; · iexact Hn
  isplitl [HpB]; · iexact HpB
  isplitl [Hs]; · iexact Hs
  isplitl [Hsl]; · iexact Hsl
  isplitl [Hout]; · iexact Hout
  isplitl [HO]; · iexact HO
  iintro %W2 ⟨Hat, Hn, HpB, Hs, Hsl, Hout, HO⟩
  iapply (hopP_wp I K c 2 2 rfl a2 W2)
  isplitr; · iexact HI
  isplitr; · iexact Hlev
  isplitl [Hf2]; · iexact Hf2
  isplitl [Hat]; · iexact Hat
  isplitl [Hn]; · iexact Hn
  isplitl [HpA]; · iexact HpA
  isplitl [Hs]; · iexact Hs
  isplitl [Hsl]; · iexact Hsl
  isplitl [Hout]; · iexact Hout
  isplitl [HO]; · iexact HO
  iintro %W3 ⟨Hat, -, HpA, Hs, Hsl, Hout, HO⟩
  unfold slots
  icases Hsl with ⟨Hp, Hg0, Hg1⟩
  iapply (fupd_wp (Fr := frame))
  imod (Rounds.cell_close ER (ringRd I) (Set.mem_univ (K (barCell c))) (fun h => h) (duties_bar_end I c)) $$ [Hat] with Hbar
  · isplitr; · iapply (inv_bar I K c); iexact HI
    iexact Hat
  unfold posG
  icases HpA with ⟨HpA0, HpA1⟩
  icases HpB with ⟨HpB0, HpB1⟩
  imod (posH_close I K c 2 0 2 (fun r hr => ⟨by show 3 ≤ 2 * r + 0; omega, by show 3 ≤ 2 * r + (1 - 1); omega⟩)) $$ [HpA0] with HzA0
  · isplitr; · iexact HI
    iexact HpA0
  imod (posH_close I K c 2 1 2 (fun r hr => ⟨by show 3 ≤ 2 * r + 0; omega, by show 3 ≤ 2 * r + (1 - 1); omega⟩)) $$ [HpA1] with HzA1
  · isplitr; · iexact HI
    iexact HpA1
  imod (posH_close I K c 1 0 1 (fun r hr => ⟨by show 3 ≤ 2 * r + 1; omega, by show 3 ≤ 2 * r + (1 - 0); omega⟩)) $$ [HpB0] with HzB0
  · isplitr; · iexact HI
    iexact HpB0
  imod (posH_close I K c 1 1 1 (fun r hr => ⟨by show 3 ≤ 2 * r + 1; omega, by show 3 ≤ 2 * r + (1 - 0); omega⟩)) $$ [HpB1] with HzB1
  · isplitr; · iexact HI
    iexact HpB1
  imodintro
  iapply (computeP_wp I 1 c 3 fullShare)
  isplitl [Hs]; · iexact Hs
  isplitl [Hp]; · iexact Hp
  isplitl [Hout]; · iexact Hout
  iintro Hs Hp Hout
  unfold stage pairs pairAt anyPair
  icases Hs with ⟨Hx, Hk, Hv, ⟨%mf', -, Hm⟩, Hc⟩
  icases Hp with ⟨⟨Hq0, Ho0⟩, Hq1, Ho1⟩
  icases Hg0 with ⟨Hq0', Ho0'⟩
  icases Hg1 with ⟨Hq1', Ho1'⟩
  iapply HK
  isplitl [Hbar]; · iexact Hbar
  isplitl [HzA0 HzA1 HzB0 HzB1]
  · unfold zeros
    isplitl [HzA0 HzA1]
    · isplitl [HzA0]; · iexact HzA0
      iexact HzA1
    · isplitl [HzB0]; · iexact HzB0
      iexact HzB1
  isplitl [Hx Hwq Hk Hv Hwo]
  · isplitl [Hx]; · iexact Hx
    isplitl [Hwq]; · iexact Hwq
    isplitl [Hk]; · iexact Hk
    isplitl [Hv]; · iexact Hv
    iexact Hwo
  isplitl [Hout]; · iexact Hout
  isplitr [HO]
  · isplitl [Hq0 Hq0']
    · iapply (qBuf_join c 0)
      isplitl [Hq0']; · iexact Hq0'
      iapply (qOwn_any c 0 1 _) $$ Hq0
    isplitl [Ho0 Ho0']
    · iapply (oBuf_join c 0)
      isplitl [Ho0']; · iexact Ho0'
      iapply (oOwn_any c 0 1 _) $$ Ho0
    isplitl [Hq1 Hq1']
    · iapply (qBuf_join c 1)
      isplitl [Hq1']; · iexact Hq1'
      iapply (qOwn_any c 1 1 _) $$ Hq1
    isplitl [Ho1 Ho1']
    · iapply (oBuf_join c 1)
      isplitl [Ho1']; · iexact Ho1'
      iapply (oOwn_any c 1 1 _) $$ Ho1
    isplitl [Hm]; · iexists mf'; iexact Hm
    iexact Hc
  iexact HO

end Cert.Kernel.Gen
-- ==== Proof.Region.lean ====
module

public import proofs.«01_k».proof.Proof.Body
public import proofs.«01_k».proof.Proof.Gen.Kernel.Regions
public import proofs.«01_k».proof.Proof.Gen.Kernel.Points
public import Idealize.ShloMosaic.Lib.Pipeline.FrameBody
public import Idealize.ShloMosaic.Lib.Pipeline.ValueKit

@[expose] public section

/-! # The kernel's region

What the host leaves is what the windows stage; the body's run is the one grid point; the region as a segment. -/

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig ℕ (Elt F) ℕ UU ℕ

variable (m : (ℓ : Loc nD τ sig) → Buf (Elt F) ℓ)

/-- What the five input windows stage, from the memory at launch. -/
def ins : Ins F where
  x c := V1 m c main_arg0
  wq c := V1 m c main_arg1
  k c := V1 m c main_v15
  v c := V1 m c main_v16
  wo c := V1 m c main_arg4

/-- A device's unscoped buffers at the end: the result at its value, the rest as the host left them. -/
abbrev VE (c : Dev nD) : Valuation τ sig (Elt F) := Function.update (V1 m c) main_v17 (outV (ins m) c)

theorem VE_of (c : Dev nD) (r : Ref sig .tc) (h : r ≠ main_v17) : VE m c r = V1 m c r :=
  Function.update_of_ne (StableHlo.devRef_ne_of_ne h : (Proc.devRef .tc r : DevRef τ sig) ≠ Proc.devRef .tc main_v17) _ _
theorem VE_v17 (c : Dev nD) : VE m c main_v17 = outV (ins m) c := Function.update_self _ _ _

/-! ## The proof data -/

/-- What the body starts from beside its buffers, and what it keeps. -/
def X1 (c : Dev nD) : sProp 𝕄 := iprop((∃ K, ghost (ins m) K c) ∗ levAts L lv)
def Y1 (c : Dev nD) : sProp 𝕄 := semVal (barCell c) 0

/-- The one point: everything owed before it, nothing after. -/
def dat (c : Dev nD) : Dat τ (Elt F) ℕ ℕ UU ℕ cfg0 c where
  A w := V1 m c (Proc.devRef .tc (Pipeline.arrRef spec0 w))
  after w _ :=
    match w with
    | ⟨0, _⟩ => (ins m).x c
    | ⟨1, _⟩ => (ins m).wq c
    | ⟨2, _⟩ => (ins m).k c
    | ⟨3, _⟩ => (ins m).v c
    | ⟨4, _⟩ => (ins m).wo c
    | ⟨5, _⟩ => outV (ins m) c
    | ⟨_ + 6, h⟩ => absurd h (Nat.not_lt.2 (Nat.le_add_left _ _))
  Φ t := if t.val = 0 then iprop(X1 m c ∗ scratch c ∗ ∃ r, prngReg c r) else iprop(Y1 c ∗ zeros c ∗ scratch c ∗ ∃ r, prngReg c r)
  q _ := fullShare
  owed t := if t.val = 0 then oweAll c else 0

def pdats : (p : Fin 1) → (c : Dev nD) → Dat τ (Elt F) ℕ ℕ UU ℕ (cfgs p) c
  | 0 => dat m

theorem owed_zero (c : Dev nD) : (dat m c).owed 0 = oweAll c := by
  show (if ((0 : Fin (cfg0.N + 1)).val = 0) then oweAll c else 0) = oweAll c; exact if_pos rfl
theorem owed_first (c : Dev nD) : (dat m c).owed t0_0.castSucc = oweAll c := by
  show (if (t0_0.castSucc : Fin (cfg0.N + 1)).val = 0 then oweAll c else 0) = oweAll c; exact if_pos rfl
theorem owed_last (c : Dev nD) : (dat m c).owed (Fin.last _) = 0 := by
  show (if (Fin.last cfg0.N).val = 0 then oweAll c else 0) = 0
  rw [Fin.val_last, if_neg (by rw [show cfg0.N = 1 from N_0]; decide)]
theorem Φ_last (c : Dev nD) : (dat m c).Φ (Fin.last _) = iprop(Y1 c ∗ zeros c ∗ scratch c ∗ ∃ r, prngReg c r) := by
  show (if (Fin.last cfg0.N).val = 0 then iprop(X1 m c ∗ scratch c ∗ ∃ r, prngReg c r)
    else iprop(Y1 c ∗ zeros c ∗ scratch c ∗ ∃ r, prngReg c r)) = _
  rw [Fin.val_last, if_neg (by rw [show cfg0.N = 1 from N_0]; decide)]

theorem owesAt_intro (c : Dev nD) (t : Fin (cfg0.N + 1))
    (O : CellTallies nD τ sig ℕ) (h0 : (dat m c).owed t = O) (W : Waits sig ℕ) :
    (owes (c : Thread nD τ) O W : sProp 𝕄) ⊢ ((dat m c).owesAt 0 t : sProp 𝕄) := by
  unfold Dat.owesAt Pipeline.owesWithin Dat.bound
  rw [h0]
  iintro HO; iexists W
  isplitr; · ipureintro; exact fun _ _ => Or.inl trivial
  iexact HO
theorem owesAt_elim (c : Dev nD) (t : Fin (cfg0.N + 1))
    (O : CellTallies nD τ sig ℕ) (h0 : (dat m c).owed t = O) :
    ((dat m c).owesAt 0 t : sProp 𝕄) ⊢ iprop(∃ W, owes (c : Thread nD τ) O W) := by
  unfold Dat.owesAt Pipeline.owesWithin; rw [h0]
  iintro ⟨%W, -, HO⟩; iexists W; iexact HO

/-! ## Each window's staging buffer -/

theorem stage_in0 (c : Dev nD) (d) : (dat m c).before 0 t0_0 d = (ins m).x c := by
  rw [Dat.before_fetched _ _ _ (fetch0_0 t0_0)]
  funext j
  refine congrArg (V1 m c main_arg0) (funext fun a => Fin.ext ?_)
  exact Pipeline.Window.rect_emb_val_of_index_zero win0_0 t0_0 a (by revert a; decide) j
theorem stage_in1 (c : Dev nD) (d) : (dat m c).before 1 t0_0 d = (ins m).wq c := by
  rw [Dat.before_fetched _ _ _ (fetch0_1 t0_0)]
  funext j
  refine congrArg (V1 m c main_arg1) (funext fun a => Fin.ext ?_)
  exact Pipeline.Window.rect_emb_val_of_index_zero win0_1 t0_0 a (by revert a; decide) j
theorem stage_in2 (c : Dev nD) (d) : (dat m c).before 2 t0_0 d = (ins m).k c := by
  rw [Dat.before_fetched _ _ _ (fetch0_2 t0_0)]
  funext j
  refine congrArg (V1 m c main_v15) (funext fun a => Fin.ext ?_)
  exact Pipeline.Window.rect_emb_val_of_index_zero win0_2 t0_0 a (by revert a; decide) j
theorem stage_in3 (c : Dev nD) (d) : (dat m c).before 3 t0_0 d = (ins m).v c := by
  rw [Dat.before_fetched _ _ _ (fetch0_3 t0_0)]
  funext j
  refine congrArg (V1 m c main_v16) (funext fun a => Fin.ext ?_)
  exact Pipeline.Window.rect_emb_val_of_index_zero win0_3 t0_0 a (by revert a; decide) j
theorem stage_in4 (c : Dev nD) (d) : (dat m c).before 4 t0_0 d = (ins m).wo c := by
  rw [Dat.before_fetched _ _ _ (fetch0_4 t0_0)]
  funext j
  refine congrArg (V1 m c main_arg4) (funext fun a => Fin.ext ?_)
  exact Pipeline.Window.rect_emb_val_of_index_zero win0_4 t0_0 a (by revert a; decide) j

/-- The staging buffers before the body are the body's buffers. -/
theorem stages_in (c : Dev nD) :
    (bigSep Finset.univ fun w : Fin cfg0.W => (iprop(∃ d, owns (c : Thread nD τ) ((cfg0.win w).stage (cfg0.slots t0_0 w)) fullShare ((dat m c).before w t0_0 d)) : sProp 𝕄))
      ⊢ iprop(inputs (ins m) c ∗ anyBuf c outM) := by
  rw [bigSep_W0]
  unfold inputs anyBuf
  iintro ⟨⟨%d0, H0⟩, ⟨%d1, H1⟩, ⟨%d2, H2⟩, ⟨%d3, H3⟩, ⟨%d4, H4⟩, ⟨%d5, H5⟩⟩
  isplitl [H0 H1 H2 H3 H4]
  · isplitl [H0]
    · iapply (Entails.of_eq (owns_whole (c : Thread nD τ) cc0_stg0_0 fullShare _)) $$ [H0]
      iapply (Entails.of_eq (congrArg (owns (c : Thread nD τ) (st0_0 t0_0) fullShare) (stage_in0 m c d0))) $$ H0
    isplitl [H1]
    · iapply (Entails.of_eq (owns_whole (c : Thread nD τ) cc0_stg1_0 fullShare _)) $$ [H1]
      iapply (Entails.of_eq (congrArg (owns (c : Thread nD τ) (st0_1 t0_0) fullShare) (stage_in1 m c d1))) $$ H1
    isplitl [H2]
    · iapply (Entails.of_eq (owns_whole (c : Thread nD τ) cc0_stg2_0 fullShare _)) $$ [H2]
      iapply (Entails.of_eq (congrArg (owns (c : Thread nD τ) (st0_2 t0_0) fullShare) (stage_in2 m c d2))) $$ H2
    isplitl [H3]
    · iapply (Entails.of_eq (owns_whole (c : Thread nD τ) cc0_stg3_0 fullShare _)) $$ [H3]
      iapply (Entails.of_eq (congrArg (owns (c : Thread nD τ) (st0_3 t0_0) fullShare) (stage_in3 m c d3))) $$ H3
    iapply (Entails.of_eq (owns_whole (c : Thread nD τ) cc0_stg4_0 fullShare _)) $$ [H4]
    iapply (Entails.of_eq (congrArg (owns (c : Thread nD τ) (st0_4 t0_0) fullShare) (stage_in4 m c d4))) $$ H4
  · iexists ((dat m c).before 5 t0_0 d5)
    iapply (Entails.of_eq (owns_whole (c : Thread nD τ) cc0_stg5_0 fullShare _)) $$ H5

/-- The result's contents from its two batches. -/
theorem out_eq (c : Dev nD) (f : Buf (Elt F) (outM.view.loc (c : Thread nD τ)))
    (h : ∀ b, (outM.access (xRect b)).read (Elt F) f = accV (ins m) c b 3) : f = outV (ins m) c := by
  funext i
  unfold outV
  rw [← h (i 0)]
  refine congrArg f (funext fun a => Fin.ext ?_)
  match a with
  | ⟨0, _⟩ => show (i 0).val = (i 0).val + 1 * 0; omega
  | ⟨1, _⟩ => show (i 1).val = 0 + 1 * (i 1).val; omega
  | ⟨2, _⟩ => show (i 2).val = 0 + 1 * (i 2).val; omega

theorem stages_out (c : Dev nD) :
    iprop(inputs (ins m) c ∗ outSt (ins m) c 4)
      ⊢ (bigSep Finset.univ fun w : Fin cfg0.W => (owns (c : Thread nD τ) ((cfg0.win w).stage (cfg0.slots t0_0 w)) fullShare ((dat m c).after w t0_0) : sProp 𝕄)) := by
  rw [bigSep_W0]
  unfold inputs outSt
  iintro ⟨⟨H0, H1, H2, H3, H4⟩, ⟨%f, %hf, H5⟩⟩
  have e := out_eq m c f hf
  subst e
  isplitl [H0]; · iapply (Entails.of_eq (owns_whole (c : Thread nD τ) cc0_stg0_0 fullShare _).symm) $$ H0
  isplitl [H1]; · iapply (Entails.of_eq (owns_whole (c : Thread nD τ) cc0_stg1_0 fullShare _).symm) $$ H1
  isplitl [H2]; · iapply (Entails.of_eq (owns_whole (c : Thread nD τ) cc0_stg2_0 fullShare _).symm) $$ H2
  isplitl [H3]; · iapply (Entails.of_eq (owns_whole (c : Thread nD τ) cc0_stg3_0 fullShare _).symm) $$ H3
  isplitl [H4]; · iapply (Entails.of_eq (owns_whole (c : Thread nD τ) cc0_stg4_0 fullShare _).symm) $$ H4
  iapply (Entails.of_eq (owns_whole (c : Thread nD τ) cc0_stg5_0 fullShare _).symm) $$ H5

/-- The run of the body from the windows as staged to the windows as left. -/
theorem body_run (c : Dev nD) :
    iprop((dat m c).Φ t0_0.castSucc ∗ (dat m c).owesAt 0 t0_0.castSucc
      ∗ bigSep Finset.univ fun w : Fin cfg0.W => (iprop(∃ d, owns (c : Thread nD τ) ((cfg0.win w).stage (cfg0.slots t0_0 w)) fullShare ((dat m c).before w t0_0 d)) : sProp 𝕄))
    ⊢ runs c bodyP fun _ => iprop((dat m c).Φ t0_0.succ ∗ (dat m c).owesAt 0 t0_0.succ
      ∗ bigSep Finset.univ fun w : Fin cfg0.W => (owns (c : Thread nD τ) ((cfg0.win w).stage (cfg0.slots t0_0 w)) fullShare ((dat m c).after w t0_0) : sProp 𝕄)) := by
  rw [show (dat m c).Φ t0_0.castSucc = iprop(X1 m c ∗ scratch c ∗ ∃ r, prngReg c r) from rfl,
    show (dat m c).Φ t0_0.succ = iprop(Y1 c ∗ zeros c ∗ scratch c ∗ ∃ r, prngReg c r) from rfl]
  unfold X1 Y1
  iintro ⟨⟨⟨⟨%K, Hg⟩, Hlev⟩, Hs, Hreg⟩, HO, Hw⟩
  ihave HO' := (owesAt_elim m c _ (oweAll c) (owed_first m c)) $$ HO
  icases HO' with ⟨%W, HO⟩
  ihave Hw' := (stages_in m c) $$ Hw
  icases Hw' with ⟨Hin, Hout⟩
  iapply (body_wp (ins m) K c W)
  isplitl [Hg]; · iexact Hg
  isplitl [Hlev]; · iexact Hlev
  isplitl [Hin]; · iexact Hin
  isplitl [Hout]; · iexact Hout
  isplitl [Hs]; · iexact Hs
  isplitl [HO]; · iexact HO
  iintro %W' ⟨Hb, Hz, Hin, Hout, Hs, HO⟩
  isplitl [Hb Hz Hs Hreg]
  · isplitl [Hb]; · iexact Hb
    isplitl [Hz]; · iexact Hz
    isplitl [Hs]; · iexact Hs
    iexact Hreg
  isplitl [HO]; · iapply (owesAt_intro m c t0_0.succ 0 (owed_last m c) W'); iexact HO
  iapply (stages_out m c)
  isplitl [Hin]; · iexact Hin
  iexact Hout

/-- What the pipeline calls at the point. -/
theorem body_row : defs₀ (F := F) .tc cfg0.body (cfg0.bodyArgs t0_0 (cfg0.slots t0_0)) = bodyP (F := F) :=
  (show defs₀ (F := F) .tc cfg0.body (cfg0.bodyArgs t0_0 (cfg0.slots t0_0)) = bodyAt0 (F := F) t0_0 by chain_rfl).trans body_eq

/-- The body obligation. -/
theorem obligation (c : Dev nD) : Pipeline.BodyObligation (dat m c) defs₀ 𝒱₀ (0 : ℕ) Set.univ := fun t => by
  obtain rfl := fin_N0 t
  refine (body_run m c).trans ?_
  rw [← body_row]

end Cert.Kernel.Gen
-- ==== Proof.Deal.lean ====
module

public import proofs.«01_k».proof.Proof.Region
public import Idealize.ShloMosaic.Lib.Rounds

@[expose] public section

/-! # What the launch deals

The ring's cells opened, every duty's token handed to the device that pays it, and the launch credit. -/

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The sixteen copy cells of a device, one by one -/

theorem cells_split (c : Dev nD) (Ψ : GSem nD τ sig → sProp 𝕄) :
    bigSep Finset.univ (fun k : Fin 16 => Ψ (dmaEmb (c, k)))
      = iprop(Ψ (qSendC c 0 0) ∗ Ψ (qSendC c 0 1) ∗ Ψ (qRecvC c 0 0) ∗ Ψ (qRecvC c 0 1) ∗ Ψ (oSendC c 0 0) ∗ Ψ (oSendC c 0 1) ∗ Ψ (oRecvC c 0 0) ∗ Ψ (oRecvC c 0 1) ∗ Ψ (qSendC c 1 0) ∗ Ψ (qSendC c 1 1) ∗ Ψ (qRecvC c 1 0) ∗ Ψ (qRecvC c 1 1) ∗ Ψ (oSendC c 1 0) ∗ Ψ (oSendC c 1 1) ∗ Ψ (oRecvC c 1 0) ∗ Ψ (oRecvC c 1 1)) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) (fun k : Fin 16 => Ψ (dmaEmb (c, k)))

variable (I : Ins F)

/-- The copy cells opened, each at round 0. -/
theorem open_cells (K : GSem nD τ sig → ℕ) (c : Dev nD) :
    iprop(Invs I K ∗ (bigSep Finset.univ fun k : Fin 16 => (openTok ER (dmaEmb (c, k)) : sProp 𝕄)) ∗ Pipeline.ownSems0 ringSem c)
      ⊢ (|={Set.univ}=> iprop(posG c 0 0 ∗ posG c 1 0) : sProp 𝕄) := by
  have h1 : (k : Fin 16) → k ∈ Finset.univ → iprop(Invs I K ∗ (openTok ER (dmaEmb (c, k)) ∗ semVal (dmaEmb (c, k)) 0))
      ⊢ (|={Set.univ}=> iprop(atPos ER (dmaEmb (c, k)) 0 ∅ 0 ∗ reached ER (dmaEmb (c, k)) 0) : sProp 𝕄) := fun k _ => by
    iintro ⟨#HI, Ho, Hv⟩
    iapply (Rounds.cell_open ER (ringRd I) (g := dmaEmb (c, k)) (Set.mem_univ (K (dmaEmb (c, k)))))
    isplitr
    · iapply (inv_at I K (Finset.mem_union_right _ (Finset.mem_map_of_mem dmaEmb (Finset.mem_univ (c, k))))); iexact HI
    isplitl [Ho] <;> iassumption
  have hs : (Pipeline.ownSems0 ringSem c : sProp 𝕄) ⊢ bigSep Finset.univ fun k : Fin 16 => (semVal (dmaEmb (c, k)) 0 : sProp 𝕄) := .rfl
  iintro ⟨#HI, Ho, Hs⟩
  ihave Hs := hs $$ Hs
  ihave Hb := (show iprop((bigSep Finset.univ fun k : Fin 16 => (openTok ER (dmaEmb (c, k)) : sProp 𝕄)) ∗ bigSep Finset.univ fun k : Fin 16 => (semVal (dmaEmb (c, k)) 0 : sProp 𝕄))
      ⊢ bigSep Finset.univ fun k : Fin 16 => iprop(openTok ER (dmaEmb (c, k)) ∗ semVal (dmaEmb (c, k)) 0) from Entails.of_eq (bigSep_sep' _ _ _).symm) $$ [Ho Hs]
  · isplitl [Ho] <;> iassumption
  ihave Hb := (bigSep_with_persistent (R := Invs I K) (Φ := fun k : Fin 16 => iprop(openTok ER (dmaEmb (c, k)) ∗ semVal (dmaEmb (c, k)) 0))
    (Ψ := fun k : Fin 16 => iprop(|={Set.univ}=> iprop(atPos ER (dmaEmb (c, k)) 0 ∅ 0 ∗ reached ER (dmaEmb (c, k)) 0))) h1) $$ [Hb]
  · isplitr; · iexact HI
    iexact Hb
  imod (bigSep_fupd Finset.univ _) $$ Hb with Hb
  imodintro
  ihave Hb := (Entails.of_eq (cells_split c (fun g => (iprop(atPos ER g 0 ∅ 0 ∗ reached ER g 0) : sProp 𝕄)))) $$ Hb
  icases Hb with ⟨⟨A0, R0⟩, ⟨A1, R1⟩, ⟨A2, R2⟩, ⟨A3, R3⟩, ⟨A4, R4⟩, ⟨A5, R5⟩, ⟨A6, R6⟩, ⟨A7, R7⟩, ⟨A8, R8⟩, ⟨A9, R9⟩, ⟨A10, R10⟩, ⟨A11, R11⟩, ⟨A12, R12⟩, ⟨A13, R13⟩, ⟨A14, R14⟩, ⟨A15, R15⟩⟩
  unfold posG posH
  isplitl [A0 R0 A3 R3 A4 R4 A7 R7 A8 R8 A11 R11 A12 R12 A15 R15]
  · isplitl [A0 R0 A3 R3 A4 R4 A7 R7]
    · isplitl [A0 A3 A4 A7]
      · isplitl [A0]; · iexact A0
        isplitl [A3]; · iexact A3
        isplitl [A4]; · iexact A4
        iexact A7
      isplitl [R0]; · iexact R0
      isplitl [R3]; · iexact R3
      isplitl [R4]; · iexact R4
      iexact R7
    isplitl [A8 A11 A12 A15]
    · isplitl [A8]; · iexact A8
      isplitl [A11]; · iexact A11
      isplitl [A12]; · iexact A12
      iexact A15
    isplitl [R8]; · iexact R8
    isplitl [R11]; · iexact R11
    isplitl [R12]; · iexact R12
    iexact R15
  isplitl [A1 R1 A2 R2 A5 R5 A6 R6]
  · isplitl [A1 A2 A5 A6]
    · isplitl [A1]; · iexact A1
      isplitl [A2]; · iexact A2
      isplitl [A5]; · iexact A5
      iexact A6
    isplitl [R1]; · iexact R1
    isplitl [R2]; · iexact R2
    isplitl [R5]; · iexact R5
    iexact R6
  isplitl [A9 A10 A13 A14]
  · isplitl [A9]; · iexact A9
    isplitl [A10]; · iexact A10
    isplitl [A13]; · iexact A13
    iexact A14
  isplitl [R9]; · iexact R9
  isplitl [R10]; · iexact R10
  isplitl [R13]; · iexact R13
  iexact R14

/-- The copy cells' counters at zero, as the region wants them back. -/
theorem zeros_own (c : Dev nD) : zeros c ⊢ (Pipeline.ownSems0 ringSem c : sProp 𝕄) := by
  refine BIBase.Entails.trans ?_ (Entails.of_eq (cells_split c (fun g => (semVal g 0 : sProp 𝕄))).symm)
  unfold zeros zeroH
  iintro ⟨⟨⟨Z0, Z3, Z4, Z7⟩, ⟨Z8, Z11, Z12, Z15⟩⟩, ⟨Z1, Z2, Z5, Z6⟩, ⟨Z9, Z10, Z13, Z14⟩⟩
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  isplitl [Z13]; · iexact Z13
  isplitl [Z14]; · iexact Z14
  iexact Z15

/-! ## The duties' tokens -/

/-- A duty: its hop, its half, and which of the five contributions it is. -/
abbrev Duty : Type := Fin 3 × Fin 2 × Fin 5
/-- The semaphore, the round, and the name of a duty. -/
abbrev duty : Duty → SemLoc sig × ℕ × Fin 2
  | (h, sd, 0) => (.reg barSem, h.val, sd)
  | (h, sd, 1) => (.dma (qSend sd (sl h)), rd h, 0)
  | (h, sd, 2) => (.dma (qRecv sd (rl h)), rd h, 0)
  | (h, sd, 3) => (.dma (oSend sd (sl h)), rd h, 0)
  | (h, sd, 4) => (.dma (oRecv sd (rl h)), rd h, 0)
theorem duty_inj : Function.Injective duty := by decide
/-- Whose cell device `c` pays a duty to. -/
abbrev payee : Duty → Dev nD → Dev nD
  | (_, sd, 0), c => prv sd c
  | (_, _, 1), c => c
  | (_, sd, 2), c => nxt sd c
  | (_, _, 3), c => c
  | (_, sd, 4), c => nxt sd c
abbrev payer : Duty → Dev nD → Dev nD
  | (_, sd, 0), c => nxt sd c
  | (_, _, 1), c => c
  | (_, sd, 2), c => prv sd c
  | (_, _, 3), c => c
  | (_, sd, 4), c => prv sd c
theorem payee_payer : ∀ (k : Duty) (c : Dev nD), payee k (payer k c) = c := by decide
theorem payer_payee : ∀ (k : Duty) (c : Dev nD), payer k (payee k c) = c := by decide
def around : Dev nD × Duty ≃ Dev nD × Duty where
  toFun p := (payee p.2 p.1, p.2)
  invFun p := (payer p.2 p.1, p.2)
  left_inv p := Prod.ext (payer_payee p.2 p.1) rfl
  right_inv p := Prod.ext (payee_payer p.2 p.1) rfl

def ringToks : Finset (GSem nD τ sig × ℕ × Fin 2) :=
  Finset.univ.map ⟨fun p : Dev nD × Duty => (((p.1 : Thread nD τ), (duty p.2).1), (duty p.2).2), fun _ _ h =>
    Prod.ext (congrArg (fun t : GSem nD τ sig × ℕ × Fin 2 => t.1.1.1) h)
      (duty_inj (Prod.ext (congrArg (fun t : GSem nD τ sig × ℕ × Fin 2 => t.1.2) h) (congrArg (fun t : GSem nD τ sig × ℕ × Fin 2 => t.2) h)))⟩

/-- The token of one duty that device `c` pays. -/
def tok (c : Dev nD) (k : Duty) : sProp 𝕄 := dutyTok ER ((payee k c : Thread nD τ), (duty k).1) (duty k).2.1 (duty k).2.2

theorem toks_around : (bigSep ringToks fun x => (dutyTok ER x.1 x.2.1 x.2.2 : sProp 𝕄))
    = bigSep Finset.univ fun c : Dev nD => bigSep Finset.univ fun k : Duty => tok c k := by
  unfold ringToks
  rw [bigSep_map, bigSep_univ_equiv around, bigSep_univ_prod]
  rfl

/-- All a device signals and copies with. -/
def allToks (c : Dev nD) : sProp 𝕄 :=
  iprop((barToks (F := F) c 0 ∗ sendToks c 0 0 ∗ sendToks c 0 1) ∗ (barToks c 1 ∗ sendToks c 1 0 ∗ sendToks c 1 1) ∗ (barToks c 2 ∗ sendToks c 2 0 ∗ sendToks c 2 1))

theorem hop_toks (c : Dev nD) (h : Fin 3) :
    (bigSep Finset.univ fun p : Fin 2 × Fin 5 => (tok c (h, p) : sProp 𝕄)) ⊢ iprop(barToks c h ∗ sendToks c h 0 ∗ sendToks c h 1) := by
  rw [bigSep_univ_eq_bigSepL [((0 : Fin 2), (0 : Fin 5)), (0, 1), (0, 2), (0, 3), (0, 4), (1, 0), (1, 1), (1, 2), (1, 3), (1, 4)] (by decide) (by decide)]
  show iprop(dutyTok ER (barCell (prv 0 c)) h.val 0 ∗ dutyTok ER (qSendC c 0 (sl h)) (rd h) 0 ∗ dutyTok ER (qRecvC (nxt 0 c) 0 (rl h)) (rd h) 0 ∗ dutyTok ER (oSendC c 0 (sl h)) (rd h) 0 ∗ dutyTok ER (oRecvC (nxt 0 c) 0 (rl h)) (rd h) 0 ∗ dutyTok ER (barCell (prv 1 c)) h.val 1 ∗ dutyTok ER (qSendC c 1 (sl h)) (rd h) 0 ∗ dutyTok ER (qRecvC (nxt 1 c) 1 (rl h)) (rd h) 0 ∗ dutyTok ER (oSendC c 1 (sl h)) (rd h) 0 ∗ dutyTok ER (oRecvC (nxt 1 c) 1 (rl h)) (rd h) 0) ⊢ _
  unfold barToks sendToks
  iintro ⟨B0, S0, V0, P0, W0, B1, S1, V1, P1, W1⟩
  isplitl [B0 B1]
  · isplitl [B0]; · iexact B0
    iexact B1
  isplitl [S0 V0 P0 W0]
  · isplitl [S0 V0]
    · isplitl [S0]; · iexact S0
      iexact V0
    isplitl [P0]; · iexact P0
    iexact W0
  · isplitl [S1 V1]
    · isplitl [S1]; · iexact S1
      iexact V1
    isplitl [P1]; · iexact P1
    iexact W1

theorem all_toks (c : Dev nD) : (bigSep Finset.univ fun k : Duty => (tok c k : sProp 𝕄)) ⊢ allToks c := by
  rw [bigSep_univ_prod, bigSep_univ_eq_bigSepL [(0 : Fin 3), 1, 2] (by decide) (by decide)]
  show iprop((bigSep Finset.univ fun p : Fin 2 × Fin 5 => tok c (0, p)) ∗ (bigSep Finset.univ fun p : Fin 2 × Fin 5 => tok c (1, p))
    ∗ bigSep Finset.univ fun p : Fin 2 × Fin 5 => tok c (2, p)) ⊢ _
  unfold allToks
  exact BIClass.sep_mono (hop_toks c 0) (BIClass.sep_mono (hop_toks c 1) (hop_toks c 2))

/-! ## The launch credit -/

/-- What one half of a hop brings in. -/
abbrev dueR (c : Dev nD) (h : Fin 3) (sd : Fin 2) : CellTallies nD τ sig ℕ :=
  tallyAt (qRecvC c sd (rl h)) (2 * h.val + 2) NQ + tallyAt (oRecvC c sd (rl h)) (2 * h.val + 2) NO
abbrev dueH (c : Dev nD) (h : Fin 3) : CellTallies nD τ sig ℕ :=
  tallyAt (barCell c) (2 * h.val + 1) 2 + (dueR c h 0 + dueR c h 1)
abbrev dueAll (c : Dev nD) : CellTallies nD τ sig ℕ := dueH c 0 + (dueH c 1 + dueH c 2)

def ring (sd : Fin 2) : Dev nD ≃ Dev nD := ⟨nxt sd, prv sd, prv_nxt sd, nxt_prv sd⟩

theorem sum_nxt (sd : Fin 2) (f : Dev nD → CellTallies nD τ sig ℕ) : ∑ d, f (nxt sd d) = ∑ d, f d := Equiv.sum_comp (ring sd) f
theorem sum_prv (sd : Fin 2) (f : Dev nD → CellTallies nD τ sig ℕ) : ∑ d, f (prv sd d) = ∑ d, f d := Equiv.sum_comp (ring sd).symm f

theorem oweH_eq (c : Dev nD) (h : Fin 3) (O : CellTallies nD τ sig ℕ) : oweH c h O = O + oweH c h 0 := by
  unfold oweH oweB oweC oweQ oweO
  abel
theorem sum_oweH (h : Fin 3) : ∑ d : Dev nD, oweH d h 0 = ∑ d : Dev nD, dueH d h := by
  unfold oweH oweB oweC oweQ oweO dueH dueR
  simp only [Finset.sum_add_distrib]
  rw [sum_prv 0 fun d => tallyAt (barCell d) (2 * h.val + 1) 1, sum_prv 1 fun d => tallyAt (barCell d) (2 * h.val + 1) 1,
    sum_nxt 0 fun d => tallyAt (qRecvC d 0 (rl h)) (2 * h.val + 2) NQ, sum_nxt 1 fun d => tallyAt (qRecvC d 1 (rl h)) (2 * h.val + 2) NQ,
    sum_nxt 0 fun d => tallyAt (oRecvC d 0 (rl h)) (2 * h.val + 2) NO, sum_nxt 1 fun d => tallyAt (oRecvC d 1 (rl h)) (2 * h.val + 2) NO]
  rw [show (∑ d : Dev nD, (tallyAt (barCell d) (2 * h.val + 1) 2 : CellTallies nD τ sig ℕ))
      = (∑ d : Dev nD, tallyAt (barCell d) (2 * h.val + 1) 1) + ∑ d : Dev nD, tallyAt (barCell d) (2 * h.val + 1) 1 from by
    rw [← Finset.sum_add_distrib]; exact Finset.sum_congr rfl fun d _ => (tallyAt_add _ _ 1 1).symm]
  rw [Finset.sum_const_zero]
  abel
theorem sum_owe : ∑ d : Dev nD, oweAll d = ∑ d : Dev nD, dueAll d := by
  rw [Finset.sum_congr rfl fun d _ => show oweAll d = oweH d 0 0 + (oweH d 1 0 + oweH d 2 0) from by
    rw [show oweAll d = oweH d 0 (oweH d 1 (oweH d 2 0)) from rfl, oweH_eq d 0 (oweH d 1 _), oweH_eq d 1 (oweH d 2 _)]; abel]
  unfold dueAll
  simp only [Finset.sum_add_distrib (f := fun d : Dev nD => oweH d 0 0), Finset.sum_add_distrib (f := fun d : Dev nD => oweH d 1 0),
    Finset.sum_add_distrib (f := fun d : Dev nD => dueH d 0), Finset.sum_add_distrib (f := fun d : Dev nD => dueH d 1), sum_oweH]

/-- Tallies at one device's cells only. -/
def OnDev (c : Dev nD) (O : CellTallies nD τ sig ℕ) : Prop := ∀ g, O g ≠ 0 → g.1 = (c : Thread nD τ)
theorem onDev_tally (c : Dev nD) (sm : SemLoc sig) (i k : ℕ) : OnDev c (tallyAt ((c : Thread nD τ), sm) i k) := fun g h => by
  by_contra hg
  exact h (tallyAt_ne_cell (fun e => hg (congrArg Prod.fst e)) i k)
theorem OnDev.add {c : Dev nD} {O O' : CellTallies nD τ sig ℕ} (h : OnDev c O) (h' : OnDev c O') : OnDev c (O + O') := fun g hg => by
  by_cases e : O g = 0
  · refine h' g fun e' => hg ?_
    rw [Pi.add_apply, e, e', add_zero]
  · exact h g e
theorem onDev_dueH (c : Dev nD) (h : Fin 3) : OnDev c (dueH c h) :=
  (onDev_tally _ _ _ _).add (((onDev_tally _ _ _ _).add (onDev_tally _ _ _ _)).add ((onDev_tally _ _ _ _).add (onDev_tally _ _ _ _)))

/-- The credit of one hop. -/
def hopCreds (c : Dev nD) (h : Fin 3) : sProp 𝕄 :=
  iprop(cred (tallyAt (barCell c) (2 * h.val + 1) 2) ∗ recvCreds c h 0 ∗ recvCreds c h 1)

theorem dueH_creds (c : Dev nD) (h : Fin 3) : (cred (dueH c h) : sProp 𝕄) ⊢ hopCreds c h := by
  unfold hopCreds recvCreds
  exact (cred_add _ _).1.trans (BIClass.sep_mono BIBase.Entails.rfl ((cred_add _ _).1.trans (BIClass.sep_mono (cred_add _ _).1 (cred_add _ _).1)))

theorem creds (c : Dev nD) : (Pipeline.launchCred oweAll c : sProp 𝕄) ⊢ iprop(hopCreds c 0 ∗ hopCreds c 1 ∗ hopCreds c 2) := by
  rw [Pipeline.launchCred_of_sum oweAll dueAll sum_owe (fun d => (onDev_dueH d 0).add ((onDev_dueH d 1).add (onDev_dueH d 2))) c]
  exact (cred_add _ _).1.trans (BIClass.sep_mono (dueH_creds c 0) ((cred_add _ _).1.trans (BIClass.sep_mono (dueH_creds c 1) (dueH_creds c 2))))

theorem fuels (c : Dev nD) : iprop(allToks c ∗ hopCreds c 0 ∗ hopCreds c 1 ∗ hopCreds c 2) ⊢ (iprop(fuel c 0 ∗ fuel c 1 ∗ fuel c 2) : sProp 𝕄) := by
  have one (h : Fin 3) : iprop((barToks c h ∗ sendToks c h 0 ∗ sendToks c h 1) ∗ hopCreds c h) ⊢ (fuel c h : sProp 𝕄) := by
    unfold hopCreds fuel
    iintro ⟨⟨HB, H0, H1⟩, HC, R0, R1⟩
    isplitl [HB]; · iexact HB
    isplitl [H0 H1]
    · isplitl [H0]; · iexact H0
      iexact H1
    isplitl [HC]; · iexact HC
    isplitl [R0]; · iexact R0
    iexact R1
  unfold allToks
  iintro ⟨⟨T0, T1, T2⟩, C0, C1, C2⟩
  isplitl [T0 C0]
  · iapply (one 0); isplitl [T0]; · iexact T0
    iexact C0
  isplitl [T1 C1]
  · iapply (one 1); isplitl [T1]; · iexact T1
    iexact C1
  iapply (one 2); isplitl [T2]; · iexact T2
  iexact C2

end Cert.Kernel.Gen
-- ==== Proof.Launch.lean ====
module

public import proofs.«01_k».proof.Proof.Deal
public import Idealize.ShloMosaic.Lib.Pipeline.RegionTalk
public import Idealize.ShloMosaic.Lib.Quiescent

@[expose] public section

/-! # The run

The kernel's region as a segment, the launch, and every run of the program: it ends, with the result at its
value, the arguments as launched, and every counter at zero. -/

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig ℕ (Elt F) ℕ UU ℕ

variable (m : (ℓ : Loc nD τ sig) → Buf (Elt F) ℓ)

/-! ## The region -/

/-- What a device keeps from the launch for its region. -/
def Tk (c : Dev nD) : sProp 𝕄 :=
  iprop(∃ K, Invs (ins m) K ∗ (fuel c 0 ∗ fuel c 1 ∗ fuel c 2) ∗ atPos ER (barCell c) 0 ∅ 0 ∗ nbrs c 0
    ∗ bigSep Finset.univ fun k : Fin 16 => (openTok ER (dmaEmb (c, k)) : sProp 𝕄))

theorem hopen (c : Dev nD) : iprop(Tk m c ∗ Pipeline.ownSems0 ringSem c ∗ levAts L lv) ⊢ (|={Set.univ}=> X1 m c : sProp 𝕄) := by
  unfold Tk X1
  iintro ⟨⟨%K, #HI, Hf, Hb, Hn, Ho⟩, Hs, Hlev⟩
  imod (open_cells (ins m) K c) $$ [Ho Hs] with ⟨H0, H1⟩
  · isplitr; · iexact HI
    isplitl [Ho]; · iexact Ho
    iexact Hs
  imodintro
  isplitr [Hlev]
  · iexists K; unfold ghost
    isplitr; · iexact HI
    isplitl [Hf]; · iexact Hf
    isplitl [Hb]; · iexact Hb
    isplitl [Hn]; · iexact Hn
    isplitl [H0]; · iexact H0
    iexact H1
  iexact Hlev

theorem scratch_eq (c : Dev nD) : (Pipeline.scopedRest (Pipeline.pin (pcfgs (F := F)) adm 0).spec c : sProp 𝕄) = scratch c :=
  scopedRest0_eq c

theorem held_none (c : Dev nD) (V : Valuation τ sig (Elt F)) : (StableHlo.held (c : Thread nD τ) ∅ V : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V1 m c) ∗ X1 m c) ⊢ (pdats m 0 c).Φ 0 := by
  rw [show (pdats m 0 c).Φ 0 = iprop(X1 m c ∗ scratch c ∗ ∃ r, prngReg c r) from rfl, scratch_eq]
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (VE m c) ∗ Pipeline.ownSems0 ringSem c ∗ Y1 c) := by
  rw [show (pdats m 0 c).Φ (Fin.last _) = iprop(Y1 c ∗ zeros c ∗ scratch c ∗ ∃ r, prngReg c r) from Φ_last m c, scratch_eq, held_none]
  iintro ⟨HY, Hz, Hs, Hp⟩
  isplitl [Hs]; · iexact Hs
  isplitl [Hp]; · iexact Hp
  isplitr; · iempintro
  isplitl [Hz]; · iapply (zeros_own c); iexact Hz
  iexact HY

theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then oweAll c else 0 := rfl
  rw [e] at h
  split at h
  · exact (above_oweH (h := 0) (above_oweH (h := 1) (above_oweH (h := 2) (above_zero 0) (by decide)) (by decide)) (by decide) : Above 0 (oweAll c)) g i h
  · exact absurd h (Nat.lt_irrefl 0)

theorem arr_end (c : Dev nD) (w : Fin cfg0.W) : (dat m c).arrAt w cfg0.N = VE m c (Proc.devRef .tc (Pipeline.arrRef spec0 w)) := by
  match w with
  | ⟨0, _⟩ => exact ((dat m c).arrAt_in 0 rfl _).trans (VE_of m c main_arg0 (by decide)).symm
  | ⟨1, _⟩ => exact ((dat m c).arrAt_in 1 rfl _).trans (VE_of m c main_arg1 (by decide)).symm
  | ⟨2, _⟩ => exact ((dat m c).arrAt_in 2 rfl _).trans (VE_of m c main_v15 (by decide)).symm
  | ⟨3, _⟩ => exact ((dat m c).arrAt_in 3 rfl _).trans (VE_of m c main_v16 (by decide)).symm
  | ⟨4, _⟩ => exact ((dat m c).arrAt_in 4 rfl _).trans (VE_of m c main_arg4 (by decide)).symm
  | ⟨5, _⟩ => exact ((dat m c).arrAt_eq_of_after_last 5 t0_0 (by decide +kernel) (outV (ins m) c) (fun _ => rfl) (arr_whole0 5)).trans (VE_v17 m c).symm
  | ⟨n + 6, h⟩ => exact absurd h (Nat.not_lt.2 (Nat.le_add_left _ _))

theorem share_eq (c : Dev nD) (w : Fin (Pipeline.pin (pcfgs (F := F)) adm 0).W) : (pdats m 0 c).share w = fullShare := by
  unfold Dat.share; split <;> rfl

/-- The buffers the region's windows do not name. -/
abbrev others : Finset (DevRef τ sig) := Pipeline.ucRefs τ sig \ Pipeline.arrRefs spec0

set_option backward.isDefEq.respectTransparency.types false in
def reg : Pipeline.RegionSeg (pcfgs (F := F)) adm (pdats m) (0 : ℕ) defs₀ 𝒱₀ L lv 0 :=
  Pipeline.RegionSeg.ofTalk (pcfgs (F := F)) adm (pdats m) (0 : ℕ) defs₀ 𝒱₀ L lv 0 ringSem (by decide : Pipeline.OwnSemFacts spec0 ringSem)
    ∅ others (Finset.empty_subset _) launch0.toP rfl (fun c => (obligation m c).loose)
    (fun _ => 0) oweAll (fun c => (owed_zero m c).trans (zero_add _).symm) (owed_last m) (fun _ => rfl) (share_eq m)
    (V1 m) (VE m) (fun c b hb => Function.update_of_ne (by
      rintro rfl
      exact (Finset.mem_sdiff.mp (Finset.mem_sdiff.mp hb).1).2 (by decide)) _ _)
    (Tk m) Y1 (X1 m) Y1 (hopen m) (hin m) (hout m)
    (fun c => by iintro H; imodintro; iexact H)
    (fun _ => 0)
    ⟨fun c w s => by rw [L_tc]; decide, fun c w s => Nat.le_refl 0, fun c t g i h => cutD m c t g i h⟩
    (fun _ => iprop(emp))
    (fun _ _ => rfl) (arr_end m)

theorem arr_sub : Pipeline.arrRefs (τ := τ) spec0 ⊆ Pipeline.ucRefs τ sig :=
  Pipeline.arrRefs_sub_ucRefs spec0 fun w => by revert w; decide

/-- What rides beside the buffers up to the region. -/
def R0 (c : Dev nD) : sProp 𝕄 := iprop(Tk m c ∗ (∃ r, prngReg c r) ∗ ∃ W, owes (c : Thread nD τ) (oweAll c) W)

theorem reg_pre (c : Dev nD) : iprop(StableHlo.held (c : Thread nD τ) (Pipeline.ucRefs τ sig) (V1 m c) ∗ R0 m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + oweAll c) Wd)
  rw [zero_add, StableHlo.held_sub_split (c.tc : Thread nD τ) arr_sub (V1 m c)]
  unfold R0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) (Pipeline.ucRefs τ sig) (VE m c) ∗ Y1 c) ∗ ∃ W, owes (c : Thread nD τ) (0 : CellTallies nD τ sig ℕ) W) := by
  show iprop(StableHlo.held (c.tc : Thread nD τ) (Pipeline.arrRefs (τ := τ) spec0) (VE m c) ∗ (∃ r, prngReg c r)
    ∗ (StableHlo.held (c.tc : Thread nD τ) others (VE m c) ∗ emp) ∗ Y1 c ∗ ∃ Wd, owes (c : Thread nD τ) (0 : CellTallies nD τ sig ℕ) Wd) ⊢ _
  rw [StableHlo.held_sub_split (c.tc : Thread nD τ) arr_sub (VE m c)]
  iintro ⟨Ha, -, ⟨Hr, -⟩, HY, HO⟩
  isplitr [HO]
  · isplitl [Ha Hr]
    · isplitl [Ha]; · iexact Ha
      iexact Hr
    iexact HY
  iexact HO

/-! ## The launch -/

theorem disjoint_cells : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  have e : ringSem p.2 = SemLoc.reg barSem := congrArg Prod.snd h
  exact absurd e (by simp [ringSem])

/-- What the launch funds: the staging cells' records, and the ring's. -/
def u₀ : UU :=
  (initOf (Pipeline.cells (Pipeline.pin (pcfgs (F := F)) adm) cellOf_inj) (Pipeline.launchToks (Pipeline.pin (pcfgs (F := F)) adm) cellOf_inj),
    launchOf barCells dmaCells ringToks)

/-- The ring's launch element, kept on device 0 until all its cells are funded together. -/
def G (c : Dev nD) : sProp 𝕄 := if c = 0 then BI.own (ER (launchOf barCells dmaCells ringToks)) else iprop(emp)
theorem G_all : bigSep Finset.univ (G (F := F)) = BI.own (ER (launchOf barCells dmaCells ringToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: the invariants, and round 0 of every barrier cell. -/
def records (K : GSem nD τ sig → ℕ) : sProp 𝕄 := iprop(Invs (ins m) K ∗ bigSep barCells fun g => reached ER g 0)
instance records_persistent (K : GSem nD τ sig → ℕ) : BI.Persistent (records m K) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- What stays with one device. -/
def mine (c : Dev nD) : sProp 𝕄 :=
  iprop(atPos ER (barCell c) 0 ∅ 0 ∗ (bigSep Finset.univ fun k : Fin 16 => (openTok ER (dmaEmb (c, k)) : sProp 𝕄))
    ∗ bigSep Finset.univ fun k : Duty => (tok c k : sProp 𝕄))
/-- What of the launch holdings is not the ring's own state. -/
def rest (c : Dev nD) : sProp 𝕄 :=
  iprop(StableHlo.held (c : Thread nD τ) (Pipeline.ucRefs τ sig) (V0 m c) ∗ (hopCreds c 0 ∗ hopCreds c 1 ∗ hopCreds c 2)
    ∗ owes (c : Thread nD τ) (oweAll c) ∅ ∗ ∃ r, prngReg c r)

abbrev T₀ (c : Dev nD) : sProp 𝕄 := iprop(StableHlo.held (c : Thread nD τ) (Pipeline.ucRefs τ sig) (V0 m c) ∗ R0 m c)
abbrev Tₙ (c : Dev nD) : sProp 𝕄 := iprop(StableHlo.held (c : Thread nD τ) (Pipeline.ucRefs τ sig) (VE m c) ∗ Y1 c)

theorem T₀_intro (K : GSem nD τ sig → ℕ) (c : Dev nD) : iprop(records m K ∗ (mine c ∗ rest m c)) ⊢ T₀ m c := by
  unfold records mine rest T₀ R0 Tk nbrs
  iintro ⟨⟨#HI, #HR⟩, ⟨Hb, Ho, Ht⟩, Hh, Hc, HO, Hp⟩
  isplitl [Hh]; · iexact Hh
  isplitl [Hb Ho Ht Hc]
  · iexists K
    isplitr; · iexact HI
    isplitl [Ht Hc]
    · iapply (fuels c)
      isplitl [Ht]; · iapply (all_toks c); iexact Ht
      iexact Hc
    isplitl [Hb]; · iexact Hb
    isplitr
    · isplitr; · iapply (reached_at (F := F) (prv 0 c)); iexact HR
      iapply (reached_at (F := F) (prv 1 c)); iexact HR
    iexact Ho
  isplitl [Hp]; · iexact Hp
  iexists ∅; iexact HO

theorem unscoped_eq : ∀ sm : SemLoc sig, sm.isScoped .tc = false → sm = .reg barSem := by decide
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barSem} from by decide, BI.bigSep_singleton]

variable (ρ : Dev nD → PrngReg)

theorem init :
    iprop((bigSep Finset.univ fun c : Dev nD => iprop(unscopedBufs c (fun b => m ((c.tc : Thread nD τ).loc b)) ∗ unscopedSems0 c
          ∗ owes (c.tc : Thread nD τ) (oweAll c) ∅ ∗ Pipeline.launchCred oweAll c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (oweAll c) ∅ ∗ Pipeline.launchCred oweAll c ∗ prngReg c (ρ c) ∗ G c)
      ⊢ (iprop(rest m c ∗ (semVal (barCell c) 0 ∗ G c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems0_eq]
    unfold rest
    iintro ⟨Hh, Hus, HO, Hcr, Hp, HG⟩
    isplitl [Hh HO Hcr Hp]
    · isplitl [Hh]; · iexact Hh
      isplitl [Hcr]; · iapply (creds (F := F) c); iexact Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep dmaCells (fun g => (openTok ER g : sProp 𝕄))
      ⊢ bigSep Finset.univ (fun c : Dev nD => bigSep Finset.univ fun k : Fin 16 => (openTok ER (dmaEmb (c, k)) : sProp 𝕄)) :=
    Entails.of_eq ((bigSep_map (s := Finset.univ) dmaEmb (Φ := fun g : GSem nD τ sig => (openTok ER g : sProp 𝕄))).trans (bigSep_univ_prod _))
  iintro ⟨H, -⟩
  ihave H' := (show (bigSep Finset.univ fun c : Dev nD => iprop(unscopedBufs c (fun b => m ((c : Thread nD τ).loc b)) ∗ unscopedSems0 c
          ∗ owes (c : Thread nD τ) (oweAll c) ∅ ∗ Pipeline.launchCred oweAll c ∗ prngReg c (ρ c) ∗ G c))
      ⊢ (iprop((bigSep Finset.univ fun c : Dev nD => rest m c) ∗ (bigSep Finset.univ fun c : Dev nD => semVal (barCell c) 0)
        ∗ bigSep Finset.univ fun c : Dev nD => G c) : sProp 𝕄) from by
      rw [← bigSep_sep', ← bigSep_sep']; exact bigSep_mono fun c _ => hcore c) $$ H
  icases H' with ⟨HB, Hv, HG⟩
  ihave Hu := (show bigSep Finset.univ (G (F := F)) ⊢ BI.own (ER (launchOf barCells dmaCells ringToks)) from
    Entails.of_eq (G_all (F := F))) $$ HG
  imod (Rounds.fund_launch ER (ringRd (ins m)) disjoint_cells (fun g _ h => h) ringToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(mine c ∗ rest m c)) fun c _ => T₀_intro m K c)
  isplitr
  · unfold records Invs
    isplitr; · iexact Hinv
    iexact Hr
  rw [bigSep_sep']
  isplitr [HB]
  · unfold mine
    rw [bigSep_sep', bigSep_sep']
    isplitl [Hat]; · iapply hat $$ Hat
    isplitl [Hopen]; · iapply hop $$ Hopen
    iapply (Entails.of_eq (toks_around (F := F))) $$ Htok
  · iexact HB

/-! ## The run -/

/-- The rest states beside the buffers, before and after the region. -/
abbrev E (k : Fin 2) (c : Dev nD) : sProp 𝕄 := match k with | 0 => R0 m c | 1 => Y1 c

/-- What a run leaves on one device. -/
def Ends (c : Dev nD) (s : MemSt nD τ sig (Elt F)) : Prop :=
  s.mem ((c.tc : Thread nD τ).loc main_v17) = outV (ins m) c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem VE_arg (c : Dev nD) (r : Ref sig .tc) (h : r ≠ main_v17) (h' : r ∉ hostOps0_W) : VE m c r = m ((c.tc : Thread nD τ).loc r) :=
  (VE_of m c r h).trans (V1_of m c r h')

set_option backward.isDefEq.respectTransparency.types false in
/-- Every run from zero counters ends, each device's result at its value, the arguments as launched, every counter at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) (0 : ℕ) cellOf_inj EP defs₀ 𝒱₀ L lv m ρ main
    (segs m 𝒱₀ L lv (E m) (0 : ℕ) (pdats m) (reg m))
    (fun c Q => by
      rewrite [main_chain c, Pipeline.Seg.run_eq_chain,
        show (segs m 𝒱₀ L lv (E m) (0 : ℕ) (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := oweAll) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, reg_pre m c, reg_post m c⟩)
    (hinit := init m ρ)
    (QY := fun c s => Ends m c s ∧ s.sem (barCell c) = 0)
    (hfin := fun c s' => by
      dsimp only [Tₙ]; unfold Y1 StableHlo.held
      iintro ⟨⟨Hh, Hb⟩, HSI⟩
      icombine HSI Hb gives %hb
      ihave Hr := (pointsTo_read_all (Pipeline.ucRefs τ sig) (fun b => ((c : Thread nD τ).1, b)) (VE m c) s') $$ [Hh HSI]
      · isplitl [Hh] <;> iassumption
      icases Hr with ⟨%h, HSI⟩
      imodintro
      isplitr
      · ipureintro
        refine ⟨⟨(h (Proc.devRef .tc main_v17) (Finset.mem_filter.mpr ⟨StableHlo.devRef_mem_tcRefs main_v17, by decide⟩)).trans (VE_v17 m c),
          (h (Proc.devRef .tc main_arg0) (Finset.mem_filter.mpr ⟨StableHlo.devRef_mem_tcRefs main_arg0, by decide⟩)).trans (VE_arg m c main_arg0 (by decide) (by decide)),
          (h (Proc.devRef .tc main_arg1) (Finset.mem_filter.mpr ⟨StableHlo.devRef_mem_tcRefs main_arg1, by decide⟩)).trans (VE_arg m c main_arg1 (by decide) (by decide)),
          (h (Proc.devRef .tc main_arg2) (Finset.mem_filter.mpr ⟨StableHlo.devRef_mem_tcRefs main_arg2, by decide⟩)).trans (VE_arg m c main_arg2 (by decide) (by decide)),
          (h (Proc.devRef .tc main_arg3) (Finset.mem_filter.mpr ⟨StableHlo.devRef_mem_tcRefs main_arg3, by decide⟩)).trans (VE_arg m c main_arg3 (by decide) (by decide)),
          (h (Proc.devRef .tc main_arg4) (Finset.mem_filter.mpr ⟨StableHlo.devRef_mem_tcRefs main_arg4, by decide⟩)).trans (VE_arg m c main_arg4 (by decide) (by decide))⟩,
          by simpa using hb⟩
      iexact HSI)
    (hQ := fun s h hs => ⟨fun c => (h c).1, sem_eq_zero hs fun c sm hsm => by
      obtain rfl := unscoped_eq sm hsm
      exact (h c).2⟩)

end Cert.Kernel.Gen
-- ==== Proof.Carry.lean ====
module

public import proofs.«01_k».proof.Proof.Launch
public import proofs.«01_k».proof.Proof.Gen.KernelIdeal

@[expose] public section

/-! # The idealized kernel runs as the kernel does

The idealized program is the kernel's own text, so at one and the same floats a run of one is a run of the other. -/

noncomputable section

namespace Cert.Kernel.Gen

open Idealize.ShloMosaic Idealize.ShloMosaic.TcCoe Idealize.SL.Sem

/-- Every run from zero counters meets `Q`: of the kernel, and of the idealized kernel. -/
def runsK (F : FTy → Type) [FloatOps F] (m : (ℓ : Loc Cert.Kernel.nD Cert.Kernel.τ Cert.Kernel.sig) → Buf (Elt F) ℓ)
    (g : Dev Cert.Kernel.nD → PrngReg) (Q : PUnit × MemSt Cert.Kernel.nD Cert.Kernel.τ Cert.Kernel.sig (Elt F) → Prop) : Prop :=
  θ_run (Cert.Kernel.defs (F := F)) (onTc (τ := Cert.Kernel.τ) (Cert.Kernel.main (F := F))) ⟨m, fun _ => 0, g⟩ Q
def runsKI (F : FTy → Type) [FloatOps F] (m : (ℓ : Loc Cert.KernelIdeal.nD Cert.KernelIdeal.τ Cert.KernelIdeal.sig) → Buf (Elt F) ℓ)
    (g : Dev Cert.KernelIdeal.nD → PrngReg) (Q : PUnit × MemSt Cert.KernelIdeal.nD Cert.KernelIdeal.τ Cert.KernelIdeal.sig (Elt F) → Prop) : Prop :=
  θ_run (Cert.KernelIdeal.defs (F := F)) (onTc (τ := Cert.KernelIdeal.τ) (Cert.KernelIdeal.main (F := F))) ⟨m, fun _ => 0, g⟩ Q

theorem runs_same (F : FTy → Type) [FloatOps F] : runsK F = runsKI F := by chain_rfl

/-- The idealized kernel's run. -/
theorem run_ideal (F : FTy → Type) [FloatOps F] (m : (ℓ : Loc Cert.Kernel.nD Cert.Kernel.τ Cert.Kernel.sig) → Buf (Elt F) ℓ) (g : Dev Cert.Kernel.nD → PrngReg) :
    runsKI F m g (fun r => (∀ c, Ends m c r.2) ∧ r.2.sem = fun _ => 0) :=
  (congrFun (congrFun (congrFun (runs_same F) m) g) _).mp (run_main m g)

end Cert.Kernel.Gen
-- ==== Proof.Soft.lean ====
module

public import Idealize.ShloMosaic.PureOps.Ideal

@[expose] public section

/-! # Softmax over the extended reals

The kernel divides by the sum of the unshifted exponentials, the reference subtracts the row's maximum first. For real
scores, of which at least one is kept, both give the same weighted sum, whatever the values are. -/

noncomputable section

namespace Cert.Value

open Idealize.ShloMosaic

/-- A nonnegative real factor moves into a sum of extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number that is neither infinity. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩
/-- Below infinity in size. -/
theorem isReal_of_abs {x : EReal} (h : max x (-x) < ⊤) : IsReal x := by
  induction x with
  | bot => simp at h
  | top => simp at h
  | coe r => exact ⟨r, rfl⟩

variable {n : ℕ} (M : Fin n → Prop) [DecidablePred M]

/-- The kernel's weighted sum: exponentials times the 0/1 mask, and the reciprocal of their sum. -/
def plainSum (s v : Fin n → EReal) : EReal :=
  (∑ j, Ideal.exp (s j) * (if M j then 1 else 0) * v j) * Ideal.div 1 (∑ j, Ideal.exp (s j) * (if M j then 1 else 0))

/-- The scores with −∞ where they are not kept. -/
def masked (s : Fin n → EReal) (j : Fin n) : EReal := if M j then s j else ⊥
/-- A row's maximum. -/
def rowMax (s : Fin n → EReal) : EReal := Finset.univ.fold max ⊥ (masked M s)
/-- A shifted exponential. -/
def shifted (s : Fin n → EReal) (j : Fin n) : EReal := Ideal.exp (masked M s j - rowMax M s)
/-- The reference's weighted sum: softmax of the masked scores. -/
def softSum (s v : Fin n → EReal) : EReal :=
  ∑ j, v j * Ideal.div (shifted M s j) (∑ k, shifted M s k)

theorem rowMax_real (s : Fin n → EReal) (hs : ∀ j, IsReal (s j)) {j₀ : Fin n} (h₀ : M j₀) : IsReal (rowMax M s) := by
  have hge : masked M s j₀ ≤ rowMax M s := by
    unfold rowMax
    exact (Finset.le_fold_max _).mpr (.inr ⟨j₀, Finset.mem_univ _, le_rfl⟩)
  have hlt : rowMax M s < ⊤ := by
    unfold rowMax
    refine (Finset.fold_max_lt _).mpr ⟨bot_lt_top, fun j _ => ?_⟩
    unfold masked
    obtain ⟨r, hr⟩ := hs j
    split
    · rw [hr]; exact EReal.coe_lt_top r
    · exact bot_lt_top
  obtain ⟨r, hr⟩ := hs j₀
  rw [masked, if_pos h₀, hr] at hge
  generalize rowMax M s = y at *
  induction y with
  | bot => exact absurd hge (by simp)
  | top => exact absurd hlt (by simp)
  | coe q => exact ⟨q, rfl⟩

/-- The two weighted sums are one. -/
theorem plain_eq_soft (s v : Fin n → EReal) (hs : ∀ j, IsReal (s j)) {j₀ : Fin n} (h₀ : M j₀) :
    plainSum M s v = softSum M s v := by
  obtain ⟨μ, hμ⟩ := rowMax_real M s hs h₀
  choose r hr using hs
  let a : Fin n → ℝ := fun j => if M j then Real.exp (r j) else 0
  have ha : ∀ j, Ideal.exp (s j) * (if M j then 1 else 0) = (a j : EReal) := fun j => by
    rw [hr j]
    by_cases h : M j
    · simp only [a, if_pos h, mul_one]; rfl
    · simp only [a, if_neg h, mul_zero]; rfl
  have hb : ∀ j, shifted M s j = ((a j * Real.exp (-μ) : ℝ) : EReal) := fun j => by
    rw [shifted, hμ, masked]
    by_cases h : M j
    · simp only [a, if_pos h]
      rw [hr j, ← EReal.coe_sub, ← Real.exp_add, ← sub_eq_add_neg]; rfl
    · simp only [a, if_neg h, zero_mul]
      rw [EReal.bot_sub]; rfl
  have hpos : 0 < ∑ j, a j := by
    refine Finset.sum_pos' (fun j _ => ?_) ⟨j₀, Finset.mem_univ _, ?_⟩
    · simp only [a]; split
      · exact (Real.exp_pos _).le
      · exact le_rfl
    · simp only [a, if_pos h₀]; exact Real.exp_pos _
  have hc : 0 < Real.exp (-μ) := Real.exp_pos _
  unfold plainSum softSum
  simp only [ha, hb]
  rw [← coe_sum, ← coe_sum, ← Finset.sum_mul]
  generalize (∑ j, a j) = A at *
  have hA : (A : EReal) ≠ 0 := by exact_mod_cast hpos.ne'
  have hAc : ((A * Real.exp (-μ) : ℝ) : EReal) ≠ 0 := by exact_mod_cast (mul_pos hpos hc).ne'
  rw [Ideal.div, if_neg hA, one_mul, ← EReal.coe_inv, sum_mul_real _ _ (inv_nonneg.mpr hpos.le)]
  refine Finset.sum_congr rfl fun j _ => ?_
  rw [Ideal.div, if_neg hAc, ← EReal.coe_inv, ← EReal.coe_mul, mul_comm (a j : EReal), mul_assoc, ← EReal.coe_mul]
  congr 2
  field_simp

end Cert.Value
-- ==== Proof.Finite.lean ====
module

public import proofs.«01_k».proof.Pre_finite_KernelIdeal
public import proofs.«01_k».proof.Pre_finite_ReferenceIdeal
public import proofs.«01_k».proof.Proof.Soft
public import Idealize.ShloMosaic.Lib.Pointwise

@[expose] public section

/-! # What the precondition says

The predicate is a bit folded over all entries of the activations, the query weights and the keys; where it is one,
every entry is a real number. -/

noncomputable section

namespace Cert.Value

open Idealize.ShloMosaic

/-- A fold of bits by «and» is one only where every bit is. -/
theorem all_of_fold {ι : Type} (s : Finset ι) (p : ι → BitVec 1) (h : Finset.fold IntOp.andi (1#1) p s = 1#1) :
    ∀ x ∈ s, p x = 1#1 := by
  classical
  induction s using Finset.induction_on with
  | empty => exact fun x hx => absurd hx (Finset.notMem_empty x)
  | insert a s ha ih =>
    rw [Finset.fold_insert ha] at h
    have hb : ∀ u v : BitVec 1, IntOp.andi u v = 1#1 → u = 1#1 ∧ v = 1#1 := by decide
    obtain ⟨h1, h2⟩ := hb _ _ h
    intro x hx
    rcases Finset.mem_insert.mp hx with rfl | hx
    · exact h1
    · exact ih h2 x hx

/-- The bit that compares a size with infinity. -/
theorem real_of_bit {y : Ideal .bf16}
    (h : BitVec.ofBool (decide (FloatOps.absf y < Ideal.ofBits FTy.bf16 0x7F80#16)) = 1#1) : IsReal y := by
  have ht : Ideal.ofBits FTy.bf16 0x7F80#16 = (⊤ : EReal) := by rfl
  by_cases hd : FloatOps.absf y < Ideal.ofBits FTy.bf16 0x7F80#16
  · rw [ht] at hd
    exact isReal_of_abs hd
  · rw [decide_eq_false hd] at h
    exact absurd h (by decide)

end Cert.Value

namespace Cert.Pre_finite_KernelIdeal

open Idealize.ShloMosaic Cert.Value

theorem sides : Facts := ⟨by decide, by decide, by decide, by decide, by decide, by decide, by decide⟩

set_option maxRecDepth 16384 in
theorem real_of_finite [Facts] (x : FVec Ideal S2x512x768 .bf16) (wq : FVec Ideal S768x512 .bf16) (k v : FVec Ideal S8x512x32x64 .bf16)
    (wo : FVec Ideal S512x768 .bf16) (h : fn x wq k v wo = fun _ => 1#1) :
    (∀ i, IsReal (x i)) ∧ (∀ i, IsReal (wq i)) ∧ ∀ i, IsReal (k i) := by
  have h0 := congrFun h ix0
  unfold fn at h0
  dsimp only at h0
  revert h0
  pointwise
  intro h0
  have hb : ∀ u v : BitVec 1, IntOp.andi u v = 1#1 → u = 1#1 ∧ v = 1#1 := by decide
  obtain ⟨h1, hk⟩ := hb _ _ h0
  obtain ⟨hx, hw⟩ := hb _ _ h1
  refine ⟨fun i => ?_, fun i => ?_, fun i => ?_⟩
  · have hi := all_of_fold _ _ hx (i 0, i 1, i 2) (Finset.mem_univ _)
    dsimp only at hi
    rw [ix3_eta] at hi
    exact real_of_bit hi
  · have hi : ∀ (a : Fin 768) (b : Fin 512), IsReal (wq (ix2 a b)) := fun a b => by
      have h2 := all_of_fold _ _ hw
      exact real_of_bit (h2 (a, b) (by simp))
    rw [← ix2_eta i]
    exact hi _ _
  · have hi := all_of_fold _ _ hk i
    have hm : Shape.ReducesTo.drop Facts.reducesTo_S8x512x32x64_S_d0_1_2_3 i = ix0 := funext fun z => z.elim0
    exact real_of_bit (hi (by simp only [Finset.mem_filter, Finset.mem_univ, true_and]; exact hm))

end Cert.Pre_finite_KernelIdeal

namespace Cert.Pre_finite_ReferenceIdeal

open Idealize.ShloMosaic

theorem sides : Facts := ⟨by decide, by decide, by decide, by decide, by decide, by decide, by decide⟩

end Cert.Pre_finite_ReferenceIdeal
-- ==== Proof.Mask.lean ====
module

public import Idealize.ShloMosaic.Lib.Pointwise
public import Idealize.ShloMosaic.Lib.Tactic.CleanTypes

@[expose] public section

/-! # The block-sparse mask on index words

Rows and columns are cut into blocks of 64. Both programs divide the index words rounding down, with corrections for
negative words that never apply here; on the indices of a row or column the quotient is the block's number. -/

noncomputable section

namespace Cert.Value

open Idealize.ShloMosaic

/-- A column is kept in its own block, in block 0, and where the two block numbers add to a multiple of three. -/
def Keep (i j : Fin 512) : Prop := i.val / 64 = j.val / 64 ∨ j.val / 64 = 0 ∨ (i.val / 64 + j.val / 64) % 3 = 0

instance (i : Fin 512) : DecidablePred (Keep i) := fun j => by unfold Keep; infer_instance

/-- A row keeps its own column. -/
theorem keep_self (i : Fin 512) : Keep i i := Or.inl rfl

/-- The kernel's quotient of an index word by 64. -/
theorem block_vector (i : Fin 512) :
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = BitVec.ofNat 32 (i.val / 64) := by
  revert i; decide +kernel

end Cert.Value
-- ==== Proof.KerV.lean ====
module

public import proofs.«01_k».proof.Proof.Values
public import proofs.«01_k».proof.Proof.Mask
public import proofs.«01_k».proof.Proof.Soft

@[expose] public section

/-! # The kernel's result over the extended reals, index by index

From the heads' contexts to the sum over the hops, each value of the body read at an index. -/

noncomputable section

namespace Cert.Kernel.Gen

open Idealize.ShloMosaic Idealize.ShloMosaic.TcCoe Cert.Value

/-- The three ways to be kept, as the kernel's words, made a number. -/
theorem keep_number : ∀ a b : Fin 8,
      (BitVec.setWidth 32
        (IntOp.ori
          (IntOp.ori (IntOp.cmpi CmpIPredicate.eq (BitVec.ofNat 32 a.val) (BitVec.ofNat 32 b.val))
            (IntOp.cmpi CmpIPredicate.eq (BitVec.ofNat 32 b.val) 0#32))
          (IntOp.cmpi CmpIPredicate.eq
            (Scalar.select
              (IntOp.andi
                (IntOp.xori
                  (IntOp.cmpi CmpIPredicate.slt
                    (IntOp.remsi ArithUnit.vector (IntOp.addi (BitVec.ofNat 32 a.val) (BitVec.ofNat 32 b.val))
                      (Scalar.select (Scalar.cmpi CmpIPredicate.eq 3#32 0#32) 1#32 3#32))
                    0#32)
                  (Scalar.cmpi CmpIPredicate.slt (Scalar.select (Scalar.cmpi CmpIPredicate.eq 3#32 0#32) 1#32 3#32)
                    0#32))
                (IntOp.cmpi CmpIPredicate.ne
                  (IntOp.remsi ArithUnit.vector (IntOp.addi (BitVec.ofNat 32 a.val) (BitVec.ofNat 32 b.val))
                    (Scalar.select (Scalar.cmpi CmpIPredicate.eq 3#32 0#32) 1#32 3#32))
                  0#32))
              (IntOp.addi
                (IntOp.remsi ArithUnit.vector (IntOp.addi (BitVec.ofNat 32 a.val) (BitVec.ofNat 32 b.val))
                  (Scalar.select (Scalar.cmpi CmpIPredicate.eq 3#32 0#32) 1#32 3#32))
                (Scalar.select (Scalar.cmpi CmpIPredicate.eq 3#32 0#32) 1#32 3#32))
              (IntOp.remsi ArithUnit.vector (IntOp.addi (BitVec.ofNat 32 a.val) (BitVec.ofNat 32 b.val))
                (Scalar.select (Scalar.cmpi CmpIPredicate.eq 3#32 0#32) 1#32 3#32)))
            0#32)) : BitVec 32) =
    if a.val = b.val ∨ b.val = 0 ∨ (a.val + b.val) % 3 = 0 then 1#32 else 0#32 := by decide +kernel

set_option maxRecDepth 16384 in
/-- The mask is one where a column is kept, zero elsewhere. -/
theorem maskOf_at (i j : Fin 512) : maskOf (F := Ideal) (ix2 i j) = if Keep i j then 1 else 0 := by
  unfold maskOf
  pointwise [k0_pay2, k0_pay3, k0_pay4, k0_pay5, k0_pay6]
  simp only [block_vector]
  refine (congrArg (FloatOps.sitofp (F := Ideal) FTy.f32) (keep_number ⟨i.val / 64, by omega⟩ ⟨j.val / 64, by omega⟩)).trans ?_
  show FloatOps.sitofp (F := Ideal) FTy.f32 (if Keep i j then 1#32 else 0#32) = _
  by_cases h : Keep i j
  · rw [if_pos h, if_pos h]
    show (((1#32 : BitVec 32).toInt : ℝ) : EReal) = 1
    norm_num
  · rw [if_neg h, if_neg h]
    show (((0#32 : BitVec 32).toInt : ℝ) : EReal) = 0
    norm_num

/-! ## The pieces at an index -/

theorem qgV_at (x : Vec Ideal S1x512x768 .bf16) (w : Vec Ideal S768x256 .bf16) (i : Fin 512) (l : Fin 256) :
    qgV x w (ix2 i l) = (∑ a : Fin 768, x (ix3 0 i a) * w (ix2 a l)) * Ideal.ofBits .f32 0x3E000000#32 := by
  unfold qgV
  pointwise
theorem expOf_at (hh : Fin 4) (qg : FVec Ideal S512x256 .bf16) (k : Vec Ideal S1x1x512x64 .bf16) (m : Vec Ideal S512x512 .f32)
    (i j : Fin 512) : expOf hh qg k m (ix2 i j) =
      Ideal.exp (∑ d : Fin 64, qg (ix2 i ⟨64 * hh.val + d.val, by omega⟩) * k (ix4 0 0 j d)) * m (ix2 i j) := by
  unfold expOf
  pointwise
theorem headOf_at (hh : Fin 4) (qg : FVec Ideal S512x256 .bf16) (k v : Vec Ideal S1x1x512x64 .bf16) (i : Fin 512) (d : Fin 64) :
    headOf hh qg k v (maskOf (F := Ideal)) (ix2 i d) =
      plainSum (Keep i) (fun j => ∑ d : Fin 64, qg (ix2 i ⟨64 * hh.val + d.val, by omega⟩) * k (ix4 0 0 j d))
        (fun j => v (ix4 0 0 j d)) := by
  unfold headOf
  pointwise
  simp only [expOf_at, maskOf_at]
  rfl
theorem partV_at (cx : Vec Ideal S512x256 .bf16) (w : Vec Ideal S256x768 .bf16) (i : Fin 512) (o : Fin 768) :
    partV cx w (ix2 i o) = ∑ l : Fin 256, cx (ix2 i l) * w (ix2 l o) := by
  unfold partV
  pointwise
theorem firstOf_at (pA pB : FVec Ideal S512x768 .f32) (i : Fin 512) (o : Fin 768) :
    firstOf pA pB (ix3 0 i o) = pA (ix2 i o) + pB (ix2 i o) := by
  unfold firstOf
  pointwise
theorem nextOf_at (old : Vec Ideal S1x512x768 .f32) (pA pB : FVec Ideal S512x768 .f32) (i : Fin 512) (o : Fin 768) :
    nextOf old pA pB (ix3 0 i o) = old (ix3 0 i o) + (pA (ix2 i o) + pB (ix2 i o)) := by
  unfold nextOf
  pointwise

/-! ## What the pieces read -/

/-- The head worked on at a hop. -/
def headNo (c : Dev nD) (sd : Fin 2) (hop hh : Fin 4) : Fin 32 :=
  ⟨8 * (hold sd c hop.val).val + 4 * sd.val + hh.val, by have := (hold sd c hop.val).isLt; simp only [nD] at this; omega⟩

theorem kOff_eq (b sd : Fin 2) (c : Dev nD) (hop hh : Fin 4) :
    kOff b sd c hop hh = ![b.val, (headNo c sd hop hh).val, 0, 0] :=
  match b, sd with
  | 0, 0 => (by decide +kernel : ∀ c : Dev nD, ∀ hop hh : Fin 4, k0_off1 c (BitVec.ofNat 32 hop.val) (BitVec.ofNat 32 hh.val)
      = ![0, (headNo c 0 hop hh).val, 0, 0]) c hop hh
  | 0, 1 => (by decide +kernel : ∀ c : Dev nD, ∀ hop hh : Fin 4, k0_off2 c (BitVec.ofNat 32 hop.val) (BitVec.ofNat 32 hh.val)
      = ![0, (headNo c 1 hop hh).val, 0, 0]) c hop hh
  | 1, 0 => (by decide +kernel : ∀ c : Dev nD, ∀ hop hh : Fin 4, k0_off3 c (BitVec.ofNat 32 hop.val) (BitVec.ofNat 32 hh.val)
      = ![1, (headNo c 0 hop hh).val, 0, 0]) c hop hh
  | 1, 1 => (by decide +kernel : ∀ c : Dev nD, ∀ hop hh : Fin 4, k0_off4 c (BitVec.ofNat 32 hop.val) (BitVec.ofNat 32 hh.val)
      = ![1, (headNo c 1 hop hh).val, 0, 0]) c hop hh

variable (I : Ins Ideal)

theorem xBlk_at (c : Dev nD) (b : Fin 2) (i : Fin 512) (a : Fin 768) : xBlk I c b (ix3 0 i a) = I.x c (ix3 b i a) := by
  show I.x c ((xRect b).emb (ix3 0 i a)) = _
  congr 1
  funext z
  match z with
  | ⟨0, _⟩ => exact Fin.ext (by show b.val + 1 * 0 = b.val; omega)
  | ⟨1, _⟩ => exact Fin.ext (by show 0 + 1 * i.val = i.val; omega)
  | ⟨2, _⟩ => exact Fin.ext (by show 0 + 1 * a.val = a.val; omega)
theorem wqHalf_at (c : Dev nD) (sd : Fin 2) (a : Fin 768) (l : Fin 256) :
    wqHalf I sd c (ix2 a l) = I.wq c (ix2 a ⟨256 * sd.val + l.val, by omega⟩) := by
  show I.wq c ((wqRect sd).emb (ix2 a l)) = _
  congr 1
  funext z
  match z with
  | ⟨0, _⟩ => exact Fin.ext (by show 0 + 1 * a.val = a.val; omega)
  | ⟨1, _⟩ => exact Fin.ext (by show 256 * sd.val + 1 * l.val = 256 * sd.val + l.val; omega)
theorem woHalf_at (c : Dev nD) (sd : Fin 2) (l : Fin 256) (o : Fin 768) :
    woHalf I sd c (ix2 l o) = I.wo c (ix2 ⟨256 * sd.val + l.val, by omega⟩ o) := by
  show I.wo c ((woRect sd).emb (ix2 l o)) = _
  congr 1
  funext z
  match z with
  | ⟨0, _⟩ => exact Fin.ext (by show 256 * sd.val + 1 * l.val = 256 * sd.val + l.val; omega)
  | ⟨1, _⟩ => exact Fin.ext (by show 0 + 1 * o.val = o.val; omega)
/-- A head's rectangle in the keys and values. -/
theorem kRect_emb (b sd : Fin 2) (c : Dev nD) (hop hh : Fin 4) (j : Fin 512) (d : Fin 64) :
    (kRect b sd c hop hh).emb (ix4 0 0 j d) = ix4 b (headNo c sd hop hh) j d := by
  have e := kOff_eq b sd c hop hh
  funext z
  match z with
  | ⟨0, _⟩ => exact Fin.ext (by show kOff b sd c hop hh 0 + 1 * 0 = b.val; rw [e]; rfl)
  | ⟨1, _⟩ => exact Fin.ext (by show kOff b sd c hop hh 1 + 1 * 0 = (headNo c sd hop hh).val; rw [e]; rfl)
  | ⟨2, _⟩ => exact Fin.ext (by show kOff b sd c hop hh 2 + 1 * j.val = j.val; rw [e]; show 0 + 1 * j.val = j.val; omega)
  | ⟨3, _⟩ => exact Fin.ext (by show kOff b sd c hop hh 3 + 1 * d.val = d.val; rw [e]; show 0 + 1 * d.val = d.val; omega)
theorem kBlk_at (c : Dev nD) (b sd : Fin 2) (hop hh : Fin 4) (j : Fin 512) (d : Fin 64) :
    kBlk I c b sd hop hh (ix4 0 0 j d) = I.k c (ix4 b (headNo c sd hop hh) j d) :=
  congrArg (I.k c) (kRect_emb b sd c hop hh j d)
theorem vBlk_at (c : Dev nD) (b sd : Fin 2) (hop hh : Fin 4) (j : Fin 512) (d : Fin 64) :
    vBlk I c b sd hop hh (ix4 0 0 j d) = I.v c (ix4 b (headNo c sd hop hh) j d) :=
  congrArg (I.v c) (kRect_emb b sd c hop hh j d)

/-! ## Heads, halves, the sum -/

/-- The kernel's scores of a head. -/
def scoreK (c : Dev nD) (b sd : Fin 2) (hop hh : Fin 4) (i j : Fin 512) : EReal :=
  ∑ d : Fin 64, (∑ a : Fin 768, I.x c (ix3 b i a) *
    I.wq (hold sd c hop.val) (ix2 a ⟨256 * sd.val + (64 * hh.val + d.val), by omega⟩)) * Ideal.ofBits .f32 0x3E000000#32 *
    I.k c (ix4 b (headNo c sd hop hh) j d)

theorem headV_at (c : Dev nD) (b sd : Fin 2) (hop hh : Fin 4) (i : Fin 512) (d : Fin 64) :
    headV I c b sd hop hh (ix2 i d) =
      plainSum (Keep i) (scoreK I c b sd hop hh i) (fun j => I.v c (ix4 b (headNo c sd hop hh) j d)) := by
  unfold headV
  rw [headOf_at]
  simp only [qgV_at, xBlk_at, wqHalf_at, kBlk_at, vBlk_at]
  rfl

theorem halfV_at (c : Dev nD) (b sd : Fin 2) (hop : Fin 4) (i : Fin 512) (o : Fin 768) :
    halfV I c b sd hop (ix2 i o) = ∑ l : Fin 256,
      headV I c b sd hop ⟨l.val / 64, by omega⟩ (ix2 i ⟨l.val % 64, Nat.mod_lt _ (by decide)⟩) *
        I.wo (hold sd c hop.val) (ix2 ⟨256 * sd.val + l.val, by omega⟩ o) := by
  unfold halfV
  rw [partV_at]
  refine Finset.sum_congr rfl fun l _ => ?_
  rw [woHalf_at]
  refine congrArg (· * _) ?_
  show headV I c b sd hop ⟨l.val / 64, _⟩ (ValueIdx.ix2 i ⟨l.val % 64, _⟩) = _
  rw [← ix2_eq_valueIdx]

/-- The result is the sum over the hops and their two halves. -/
theorem outV_at (c : Dev nD) (b : Fin 2) (i : Fin 512) (o : Fin 768) :
    outV I c (ix3 b i o) = ∑ hop : Fin 4, ∑ sd : Fin 2, halfV I c b sd hop (ix2 i o) := by
  show accV I c b 3 (ValueIdx.ix3 0 i o) = _
  rw [← ix3_eq_valueIdx]
  simp only [accV, nextOf_at, firstOf_at, Fin.sum_univ_four, Fin.sum_univ_two]
  rfl

end Cert.Kernel.Gen
-- ==== Proof.RefV.lean ====
module

public import proofs.«01_k».proof.Proof.Gen.ReferenceIdeal.Run
public import proofs.«01_k».proof.Proof.Mask
public import proofs.«01_k».proof.Proof.Soft
public import Idealize.ShloMosaic.Lib.Routing.OpsOrder

@[expose] public section

/-! # The reference's result, index by index

The value the reference run leaves, cut into its steps; each step is read at an index. -/

noncomputable section

namespace Cert.ReferenceIdeal.Value

open Cert.ReferenceIdeal Cert.ReferenceIdeal.Gen Idealize.ShloMosaic Idealize.ShloMosaic.TcCoe Cert.Value

/-- The block number of every index. -/
def blockV : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))
/-- A row's block number, and a column's, on the square. -/
def rowB : IVec S512x512 32 :=
  broadcastInDim S512x512 ![0, 1] bcast_S512x1_S512x512_0_1 (broadcastInDim S512x1 ![0] bcast_S512_S512x1_0 blockV)
def colB : IVec S512x512 32 :=
  broadcastInDim S512x512 ![0, 1] bcast_S1x512_S512x512_0_1 (broadcastInDim S1x512 ![1] bcast_S512_S1x512_1 blockV)
/-- The divisor three, as the remainder's rule writes it. -/
def threeV : IVec S_ 32 :=
  select (cmpi .eq (id (constantI S_ 32 3#32)) (constantI S_ 32 0#32)) (constantI S_ 32 1#32) (id (constantI S_ 32 3#32))
/-- The remainder of the two block numbers' sum by three. -/
def remV : IVec S512x512 32 :=
  select (andi (cmpi .ne (cmpi .slt (Host.remsi (addi rowB colB) (broadcastInDim S512x512 ![] bcast_S_S512x512 threeV))
        (broadcastInDim S512x512 ![] bcast_S_S512x512 (constantI S_ 32 0#32)))
        (broadcastInDim S512x512 ![] bcast_S_S512x512 (cmpi .slt threeV (constantI S_ 32 0#32))))
      (cmpi .ne (Host.remsi (addi rowB colB) (broadcastInDim S512x512 ![] bcast_S_S512x512 threeV))
        (broadcastInDim S512x512 ![] bcast_S_S512x512 (constantI S_ 32 0#32))))
    (addi (Host.remsi (addi rowB colB) (broadcastInDim S512x512 ![] bcast_S_S512x512 threeV))
      (broadcastInDim S512x512 ![] bcast_S_S512x512 threeV))
    (Host.remsi (addi rowB colB) (broadcastInDim S512x512 ![] bcast_S_S512x512 threeV))
/-- The mask. -/
def keepV : IVec S512x512 1 :=
  ori (ori (cmpi .eq rowB colB)
      (broadcastInDim S512x512 ![0, 1] bcast_S1x512_S512x512_0_1
        (cmpi .eq (broadcastInDim S1x512 ![1] bcast_S512_S1x512_1 blockV)
          (broadcastInDim S1x512 ![] bcast_S_S1x512 (constantI S_ 32 0#32)))))
    (cmpi .eq remV (broadcastInDim S512x512 ![] bcast_S_S512x512 (constantI S_ 32 0#32)))
/-- Which rows keep a column. -/
def someV : IVec S1x1x512x1 1 :=
  broadcastInDim S1x1x512x1 ![2] bcast_S512_S1x1x512x1_2
    (Host.reduce IntOp.ori keepV (constantI S_ 1 0#1) reducesTo_S512x512_S512_d1 h_S_)

variable (x : FVec Ideal S8x512x768 .bf16) (wq : FVec Ideal S768x2048 .bf16) (k v : FVec Ideal S8x512x32x64 .bf16)
  (wo : FVec Ideal S2048x768 .bf16)

/-- The scores. -/
def scoreV : FVec Ideal S8x32x512x512 .f32 :=
  mulf (Host.dotGeneral dot_S8x512x32x64_S8x512x32x64_S8x32x512x512_3_3_1_1_02_02 none
      (shapeCast S8x512x32x64 (Host.dotGeneral dot_S8x512x768_S768x2048_S8x512x2048_2_0_01_1_n_n none
        (extf .f32 x bitsLt_bf16_f32) (extf .f32 wq bitsLt_bf16_f32)) shapeCasts_S8x512x2048_S8x512x32x64)
      (extf .f32 k bitsLt_bf16_f32))
    (broadcastInDim S8x32x512x512 ![] bcast_S_S8x32x512x512 (constant S_ .f32 0x3E000000#32))
variable (s : FVec Ideal S8x32x512x512 .f32)
/-- The scores where they are kept. -/
def maskedV : FVec Ideal S8x32x512x512 .f32 :=
  select (broadcastInDim S8x32x512x512 ![0, 1, 2, 3] bcast_S1x1x512x512_S8x32x512x512_0_1_2_3
      (broadcastInDim S1x1x512x512 ![2, 3] bcast_S512x512_S1x1x512x512_2_3 keepV)) s
    (broadcastInDim S8x32x512x512 ![] bcast_S_S8x32x512x512 (id (constant S_ .f32 0xFF800000#32)))
/-- The shifted exponentials. -/
def shiftedV : FVec Ideal S8x32x512x512 .f32 :=
  Host.exp (subf (maskedV s) (broadcastInDim S8x32x512x512 ![0, 1, 2, 3] bcast_S8x32x512x1_S8x32x512x512_0_1_2_3
    (broadcastInDim S8x32x512x1 ![0, 1, 2] bcast_S8x32x512_S8x32x512x1_0_1_2
      (Host.reduce FloatOps.maximumf (maskedV s) (constant S_ .f32 0xFF800000#32) reducesTo_S8x32x512x512_S8x32x512_d3 h_S_))))
variable (e : FVec Ideal S8x32x512x512 .f32)
/-- The weights. -/
def weightV : FVec Ideal S8x32x512x512 .f32 :=
  select (broadcastInDim S8x32x512x512 ![0, 1, 2, 3] bcast_S1x1x512x1_S8x32x512x512_0_1_2_3 someV)
    (Host.divf e (broadcastInDim S8x32x512x512 ![0, 1, 2, 3] bcast_S8x32x512x1_S8x32x512x512_0_1_2_3
      (select (broadcastInDim S8x32x512x1 ![0, 1, 2, 3] bcast_S1x1x512x1_S8x32x512x1_0_1_2_3 someV)
        (broadcastInDim S8x32x512x1 ![0, 1, 2] bcast_S8x32x512_S8x32x512x1_0_1_2
          (Host.reduceAdd e (constant S_ .f32 0x00000000#32) reducesTo_S8x32x512x512_S8x32x512_d3 h_S_))
        (broadcastInDim S8x32x512x1 ![] bcast_S_S8x32x512x1 (id (constant S_ .f32 0x3F800000#32))))))
    (broadcastInDim S8x32x512x512 ![] bcast_S_S8x32x512x512 (id (constant S_ .f32 0x00000000#32)))
variable (p : FVec Ideal S8x32x512x512 .f32)
/-- The result, from the weights. -/
def resultV : FVec Ideal S8x512x768 .f32 :=
  Host.dotGeneral dot_S8x512x2048_S2048x768_S8x512x768_2_0_01_1_n_n none
    (shapeCast S8x512x2048 (transpose S8x512x32x64 [0, 3, 1, 2]
      (Host.dotGeneral dot_S8x512x32x64_S8x32x512x512_S8x32x64x512_1_3_3_2_02_01 none (extf .f32 v bitsLt_bf16_f32) p)
      transposes_S8x32x64x512_S8x512x32x64_0_3_1_2) shapeCasts_S8x512x32x64_S8x512x2048)
    (extf .f32 wo bitsLt_bf16_f32)

set_option maxRecDepth 16384 in
/-- The printed value is these steps. -/
theorem res_eq (m : (ℓ : Loc nD τ sig) → Buf (Elt Ideal) ℓ) (c : Dev nD) :
    res_main_v49 m c = resultV (m ((c.tc : Thread nD τ).loc main_arg3)) (m ((c.tc : Thread nD τ).loc main_arg4))
      (weightV (shiftedV (scoreV (m ((c.tc : Thread nD τ).loc main_arg0)) (m ((c.tc : Thread nD τ).loc main_arg1))
        (m ((c.tc : Thread nD τ).loc main_arg2))))) := rfl

/-! ## The steps at an index -/

theorem blockV_at (i : Fin 512) : blockV (ix1 i) = BitVec.ofNat 32 (i.val / 64) := by
  unfold blockV
  pointwise
  simp only [id_eq, constantI]
  revert i
  decide +kernel
theorem rowB_at (i j : Fin 512) : rowB (ix2 i j) = BitVec.ofNat 32 (i.val / 64) := by
  unfold rowB
  pointwise
  exact blockV_at i
theorem colB_at (i j : Fin 512) : colB (ix2 i j) = BitVec.ofNat 32 (j.val / 64) := by
  unfold colB
  pointwise
  exact blockV_at j
theorem threeV_at : threeV ix0 = 3#32 := by
  unfold threeV
  pointwise
  decide

/-- The remainder of two block numbers' sum, in words. -/
theorem rem_word : ∀ a b : Fin 8, Scalar.select
      (IntOp.andi
        (IntOp.cmpi CmpIPredicate.ne
          (IntOp.cmpi CmpIPredicate.slt
            (IntOp.remsi ArithUnit.host (IntOp.addi (BitVec.ofNat 32 a.val) (BitVec.ofNat 32 b.val)) 3#32) 0#32)
          (IntOp.cmpi CmpIPredicate.slt 3#32 0#32))
        (IntOp.cmpi CmpIPredicate.ne
          (IntOp.remsi ArithUnit.host (IntOp.addi (BitVec.ofNat 32 a.val) (BitVec.ofNat 32 b.val)) 3#32) 0#32))
      (IntOp.addi (IntOp.remsi ArithUnit.host (IntOp.addi (BitVec.ofNat 32 a.val) (BitVec.ofNat 32 b.val)) 3#32) 3#32)
      (IntOp.remsi ArithUnit.host (IntOp.addi (BitVec.ofNat 32 a.val) (BitVec.ofNat 32 b.val)) 3#32) =
    BitVec.ofNat 32 ((a.val + b.val) % 3) := by decide +kernel

theorem remV_at (i j : Fin 512) : remV (ix2 i j) = BitVec.ofNat 32 ((i.val / 64 + j.val / 64) % 3) := by
  unfold remV
  pointwise
  simp only [rowB_at, colB_at, threeV_at, constantI]
  exact rem_word ⟨i.val / 64, by omega⟩ ⟨j.val / 64, by omega⟩

/-- The three ways to be kept, in words. -/
theorem keep_word : ∀ a b : Fin 8, IntOp.ori
      (IntOp.ori (IntOp.cmpi CmpIPredicate.eq (BitVec.ofNat 32 a.val) (BitVec.ofNat 32 b.val))
        (IntOp.cmpi CmpIPredicate.eq (BitVec.ofNat 32 b.val) 0#32))
      (IntOp.cmpi CmpIPredicate.eq (BitVec.ofNat 32 ((a.val + b.val) % 3)) 0#32) =
    if a.val = b.val ∨ b.val = 0 ∨ (a.val + b.val) % 3 = 0 then 1#1 else 0#1 := by decide +kernel

theorem keepV_at (i j : Fin 512) : keepV (ix2 i j) = if Keep i j then 1#1 else 0#1 := by
  unfold keepV
  pointwise
  simp only [rowB_at, colB_at, remV_at, blockV_at, constantI]
  exact keep_word ⟨i.val / 64, by omega⟩ ⟨j.val / 64, by omega⟩

/-- Every row keeps its own column. -/
theorem someV_at (i : Fin 512) : someV (ix4 0 0 i 0) = 1#1 := by
  unfold someV
  pointwise
  refine (Idealize.ShloMosaic.Routing.fold_ori _ _).mpr ⟨i, Finset.mem_univ _, ?_⟩
  rw [keepV_at, if_pos (keep_self i)]

theorem scoreV_at (b : Fin 8) (h : Fin 32) (i j : Fin 512) :
    scoreV x wq k (ix4 b h i j) =
      (∑ d : Fin 64, (∑ a : Fin 768, x (ix3 b i a) * wq (ix2 a ⟨h.val * 64 + d.val, by omega⟩)) * k (ix4 b j h d)) *
        Ideal.ofBits FTy.f32 0x3E000000#32 := by
  unfold scoreV
  pointwise
theorem maskedV_at (b : Fin 8) (h : Fin 32) (i j : Fin 512) :
    maskedV s (ix4 b h i j) = masked (Keep i) (fun j => s (ix4 b h i j)) j := by
  unfold maskedV
  pointwise
  rw [keepV_at, masked]
  have hb : Ideal.ofBits .f32 0xFF800000#32 = (⊥ : EReal) := by rfl
  by_cases h : Keep i j
  · rw [if_pos h, if_pos h]; rfl
  · rw [if_neg h, if_neg h]; exact hb
theorem shiftedV_at (b : Fin 8) (h : Fin 32) (i j : Fin 512) :
    shiftedV s (ix4 b h i j) = shifted (Keep i) (fun j => s (ix4 b h i j)) j := by
  unfold shiftedV
  pointwise
  simp only [maskedV_at]
  rfl
theorem weightV_at (b : Fin 8) (h : Fin 32) (i j : Fin 512) :
    weightV e (ix4 b h i j) = Ideal.div (e (ix4 b h i j)) (∑ j, e (ix4 b h i j)) := by
  unfold weightV
  pointwise
  rw [someV_at]
  rfl
theorem resultV_at (b : Fin 8) (i : Fin 512) (o : Fin 768) :
    resultV v wo p (ix3 b i o) = ∑ n : Fin 2048,
      (∑ j : Fin 512, v (ix4 b j ⟨n.val / 64, by omega⟩ ⟨n.val % 64, Nat.mod_lt _ (by decide)⟩) *
        p (ix4 b ⟨n.val / 64, by omega⟩ i j)) * wo (ix2 n o) := by
  unfold resultV
  pointwise

/-- The whole result: softmax over the kept columns, the values, the output weights. -/
theorem result_at (b : Fin 8) (i : Fin 512) (o : Fin 768) :
    resultV v wo (weightV (shiftedV (scoreV x wq k))) (ix3 b i o) = ∑ n : Fin 2048,
      softSum (Keep i) (fun j => scoreV x wq k (ix4 b ⟨n.val / 64, by omega⟩ i j))
        (fun j => v (ix4 b j ⟨n.val / 64, by omega⟩ ⟨n.val % 64, Nat.mod_lt _ (by decide)⟩)) * wo (ix2 n o) := by
  rw [resultV_at]
  refine Finset.sum_congr rfl fun n _ => ?_
  simp only [weightV_at, shiftedV_at]
  rfl

end Cert.ReferenceIdeal.Value
-- ==== Proof.Meet.lean ====
module

public import proofs.«01_k».proof.Proof.KerV
public import proofs.«01_k».proof.Proof.RefV

@[expose] public section

/-! # The two results are one

Every head of the kernel's ring is one head of the reference, and the ring's four hops in two halves visit each row
of the output weights once. -/

noncomputable section

namespace Cert.Value

open Idealize.ShloMosaic Idealize.ShloMosaic.TcCoe Cert.Kernel.Gen Cert.ReferenceIdeal.Value

/-! ## Sums in blocks -/

/-- A sum over `m * n` indices, block by block. -/
theorem sum_blocks (m n : ℕ) (g : Fin (m * n) → EReal) :
    ∑ z, g z = ∑ a : Fin m, ∑ b : Fin n, g ⟨n * a.val + b.val, by
      have ha := a.isLt; have hb := b.isLt
      calc n * a.val + b.val < n * a.val + n := by omega
        _ = n * (a.val + 1) := by ring
        _ ≤ n * m := Nat.mul_le_mul_left _ ha
        _ = m * n := Nat.mul_comm _ _⟩ := by
  rw [← Fintype.sum_prod_type']
  refine (Fintype.sum_equiv finProdFinEquiv _ _ fun p => ?_).symm
  exact congrArg g (Fin.ext (by show n * p.1.val + p.2.val = p.2.val + n * p.1.val; omega))

/-- Over the hops a half visits every device's shard once. -/
theorem sum_hold (sd : Fin 2) (c : Dev Cert.Kernel.nD) (f : Fin 4 → EReal) : ∑ hop : Fin 4, f (hold sd c hop.val) = ∑ q : Fin 4, f q :=
  Function.Bijective.sum_comp ((by decide : ∀ (sd : Fin 2) (c : Dev Cert.Kernel.nD),
    Function.Bijective (fun hop : Fin 4 => (hold sd c hop.val : Fin 4))) sd c) f

/-- One eighth. -/
theorem eighth : Ideal.ofBits .f32 0x3E000000#32 = (((1 : ℝ) / 8 : ℝ) : EReal) := by
  simp [Ideal.ofBits, Ideal.ieee, -EReal.coe_mul]; norm_num

/-! ## From the whole arrays -/

variable (I : Ins Ideal) (x : FVec Ideal Cert.ReferenceIdeal.S8x512x768 .bf16) (wq : FVec Ideal Cert.ReferenceIdeal.S768x2048 .bf16)
  (k v : FVec Ideal Cert.ReferenceIdeal.S8x512x32x64 .bf16) (wo : FVec Ideal Cert.ReferenceIdeal.S2048x768 .bf16)

/-- Batch `b` of device `c` in the whole. -/
def batchNo (c : Dev Cert.Kernel.nD) (b : Fin 2) : Fin 8 :=
  ⟨2 * c.val + b.val, by have := c.isLt; simp only [Cert.Kernel.nD] at this; omega⟩
/-- Row `l` of device `c`'s shard in the whole. -/
def shardNo (c : Dev Cert.Kernel.nD) (l : Fin 512) : Fin 2048 :=
  ⟨512 * c.val + l.val, by have := c.isLt; simp only [Cert.Kernel.nD] at this; omega⟩

/-- What the windows stage is each device's part of the whole arrays. -/
structure PartOf : Prop where
  x : ∀ c b i a, I.x c (ix3 b i a) = x (ix3 (batchNo c b) i a)
  wq : ∀ c a l, I.wq c (ix2 a l) = wq (ix2 a (shardNo c l))
  k : ∀ c b h j d, I.k c (ix4 b h j d) = k (ix4 (batchNo c b) j h d)
  v : ∀ c b h j d, I.v c (ix4 b h j d) = v (ix4 (batchNo c b) j h d)
  wo : ∀ c l o, I.wo c (ix2 l o) = wo (ix2 (shardNo c l) o)

/-- The activations, the query weights and the keys are real. -/
structure AllReal : Prop where
  x : ∀ b i a, IsReal (x (ix3 b i a))
  wq : ∀ a n, IsReal (wq (ix2 a n))
  k : ∀ b j h d, IsReal (k (ix4 b j h d))

variable {I x wq k v wo}

/-- The scores are real. -/
theorem score_real (R : AllReal x wq k) (b : Fin 8) (h : Fin 32) (i j : Fin 512) : IsReal (scoreV x wq k (ix4 b h i j)) := by
  rw [scoreV_at]
  exact (IsReal.sum _ _ fun d => (IsReal.sum _ _ fun a => (R.x _ _ _).mul (R.wq _ _)).mul (R.k _ _ _ _)).mul ⟨_, eighth⟩

/-- The kernel scales the queries, the reference the scores. -/
theorem score_eq (P : PartOf I x wq k v wo) (c : Dev Cert.Kernel.nD) (b sd : Fin 2) (hop hh : Fin 4) (i j : Fin 512) :
    scoreK I c b sd hop hh i j = scoreV x wq k (ix4 (batchNo c b) (headNo c sd hop hh) i j) := by
  rw [scoreV_at, eighth, sum_mul_real _ _ (by norm_num)]
  unfold scoreK
  rw [eighth]
  refine Finset.sum_congr rfl fun d _ => ?_
  rw [mul_right_comm, P.k]
  refine congrArg (· * _) (congrArg (· * _) (Finset.sum_congr rfl fun a _ => ?_))
  rw [P.x, P.wq]
  refine congrArg (_ * ·) (congrArg wq (congrArg (ix2 a) (Fin.ext ?_)))
  show 512 * (hold sd c hop.val).val + (256 * sd.val + (64 * hh.val + d.val))
    = (8 * (hold sd c hop.val).val + 4 * sd.val + hh.val) * 64 + d.val
  omega

/-- The reference's summand for row `n` of the output weights. -/
def term (x : FVec Ideal Cert.ReferenceIdeal.S8x512x768 .bf16) (wq : FVec Ideal Cert.ReferenceIdeal.S768x2048 .bf16)
    (k v : FVec Ideal Cert.ReferenceIdeal.S8x512x32x64 .bf16) (wo : FVec Ideal Cert.ReferenceIdeal.S2048x768 .bf16)
    (b : Fin 8) (i : Fin 512) (o : Fin 768) (n : Fin 2048) : EReal :=
  softSum (Keep i) (fun j => scoreV x wq k (ix4 b ⟨n.val / 64, by omega⟩ i j))
    (fun j => v (ix4 b j ⟨n.val / 64, by omega⟩ ⟨n.val % 64, Nat.mod_lt _ (by decide)⟩)) * wo (ix2 n o)

/-- A half's contribution is its 256 summands. -/
theorem half_eq (P : PartOf I x wq k v wo) (R : AllReal x wq k) (c : Dev Cert.Kernel.nD) (b sd : Fin 2) (hop : Fin 4)
    (i : Fin 512) (o : Fin 768) :
    halfV I c b sd hop (ix2 i o) = ∑ l : Fin 256,
      term x wq k v wo (batchNo c b) i o (shardNo (hold sd c hop.val) ⟨256 * sd.val + l.val, by omega⟩) := by
  rw [halfV_at]
  refine Finset.sum_congr rfl fun l _ => ?_
  rw [headV_at, P.wo, term]
  have hh : headNo c sd hop ⟨l.val / 64, by omega⟩
      = (⟨(shardNo (hold sd c hop.val) ⟨256 * sd.val + l.val, by omega⟩).val / 64, by omega⟩ : Fin 32) :=
    Fin.ext (by
      show 8 * (hold sd c hop.val).val + 4 * sd.val + l.val / 64 = (512 * (hold sd c hop.val).val + (256 * sd.val + l.val)) / 64
      omega)
  have hd : (⟨l.val % 64, Nat.mod_lt _ (by decide)⟩ : Fin 64)
      = ⟨(shardNo (hold sd c hop.val) ⟨256 * sd.val + l.val, by omega⟩).val % 64, Nat.mod_lt _ (by decide)⟩ :=
    Fin.ext (by
      show l.val % 64 = (512 * (hold sd c hop.val).val + (256 * sd.val + l.val)) % 64
      omega)
  refine congrArg (· * _) ?_
  simp only [P.v, score_eq P]
  rw [show scoreK I c b sd hop ⟨l.val / 64, by omega⟩ i
      = fun j => scoreV x wq k (ix4 (batchNo c b) (headNo c sd hop ⟨l.val / 64, by omega⟩) i j) from
    funext fun j => score_eq P c b sd hop _ i j, hh, hd]
  exact plain_eq_soft _ _ _ (fun j => score_real R _ _ _ _) (keep_self i)

/-- The kernel's result on a device is the reference's on its batches. -/
theorem out_eq (P : PartOf I x wq k v wo) (R : AllReal x wq k) (c : Dev Cert.Kernel.nD) (b : Fin 2) (i : Fin 512) (o : Fin 768) :
    outV I c (ix3 b i o) = resultV v wo (weightV (shiftedV (scoreV x wq k))) (ix3 (batchNo c b) i o) := by
  rw [outV_at, result_at, Finset.sum_comm]
  have hall := sum_blocks 4 512 (term x wq k v wo (batchNo c b) i o)
  refine Eq.trans ?_ hall.symm
  have hin : ∀ q : Fin 4, (∑ r : Fin 512, term x wq k v wo (batchNo c b) i o (shardNo q r))
      = ∑ sd : Fin 2, ∑ l : Fin 256, term x wq k v wo (batchNo c b) i o (shardNo q ⟨256 * sd.val + l.val, by omega⟩) :=
    fun q => sum_blocks 2 256 fun r => term x wq k v wo (batchNo c b) i o (shardNo q r)
  refine Eq.trans ?_ (Finset.sum_congr rfl fun q _ => hin q).symm
  rw [Finset.sum_comm (s := (Finset.univ : Finset (Fin 4)))]
  refine Finset.sum_congr rfl fun sd _ => ?_
  simp only [half_eq P R]
  exact sum_hold sd c fun q => ∑ l : Fin 256,
    term x wq k v wo (batchNo c b) i o (shardNo q ⟨256 * sd.val + l.val, by omega⟩)

end Cert.Value
-- ==== Proof.Staged.lean ====
module

public import proofs.«01_k».proof.Proof.Region
public import Idealize.ShloMosaic.Lib.StableHlo.ReadAt
public import Idealize.ShloMosaic.Lib.StableHlo.RunClose
public import Idealize.ShloMosaic.Lib.Pointwise

@[expose] public section

/-! # What the windows stage, from the arguments

The activations and weights are the arguments themselves; the keys and values are the device's two batches, cut out
by the host with the heads brought forward. -/

noncomputable section

namespace Cert.Kernel.Gen

open Idealize.ShloMosaic Idealize.ShloMosaic.TcCoe

variable (m : (ℓ : Loc nD τ sig) → Buf (Elt Ideal) ℓ)

/-- The first batch of a device, as the host computes it. -/
def startV (c : Dev nD) : IVec S_ 32 :=
  select (cmpi .slt (muli (id (Host.remui (Host.divui (constantI S_ 32 (Dev.word c)) (constantI S_ 32 1#32)) (constantI S_ 32 4#32)))
      (constantI S_ 32 2#32)) (constantI S_ 32 0#32))
    (addi (muli (id (Host.remui (Host.divui (constantI S_ 32 (Dev.word c)) (constantI S_ 32 1#32)) (constantI S_ 32 4#32)))
      (constantI S_ 32 2#32)) (constantI S_ 32 8#32))
    (muli (id (Host.remui (Host.divui (constantI S_ 32 (Dev.word c)) (constantI S_ 32 1#32)) (constantI S_ 32 4#32)))
      (constantI S_ 32 2#32))
/-- Where the cut starts. -/
def startsV (c : Dev nD) : Fin 4 → IVec S_ 32 := ![startV c, constantI S_ 32 0#32, constantI S_ 32 0#32, constantI S_ 32 0#32]

theorem starts_at : ∀ c : Dev nD, ∀ k : Fin 4, (startsV c k (Shape.Idx.first h_S_)).toInt = if k = 0 then (2 * c.val : ℤ) else 0 := by
  decide +kernel

/-- A device's two batches of keys or values. -/
theorem cut_at (c : Dev nD) (x : Vec Ideal S8x512x32x64 .bf16) (b : Fin 2) (j : Fin 512) (h : Fin 32) (d : Fin 64) :
    Host.dynamicSlice S2x512x32x64 x (fun k => (startsV c k (Shape.Idx.first h_S_)).toInt) sliceFits_S8x512x32x64_S2x512x32x64 (ix4 b j h d)
      = x (ix4 ⟨2 * c.val + b.val, by have := c.isLt; simp only [nD] at this; omega⟩ j h d) := by
  have hc : c.val < 4 := c.isLt
  rw [Host.dynamicSlice_apply]
  refine congrArg x ((Shape.Idx.norm_def _).trans ?_)
  funext z
  have e := starts_at c z
  match z with
  | ⟨0, _⟩ =>
    refine Fin.ext (congrArg (· + b.val) (Host.clampedStart_of_le _ _ _ (2 * c.val) (e.trans ?_) ?_))
    · rfl
    · show 2 * c.val + 2 ≤ 8; omega
  | ⟨1, _⟩ =>
    refine Fin.ext ((congrArg (· + j.val) (Host.clampedStart_of_le _ _ _ 0 (e.trans ?_) ?_)).trans (Nat.zero_add _))
    · rfl
    · show 0 + 512 ≤ 512; omega
  | ⟨2, _⟩ =>
    refine Fin.ext ((congrArg (· + h.val) (Host.clampedStart_of_le _ _ _ 0 (e.trans ?_) ?_)).trans (Nat.zero_add _))
    · rfl
    · show 0 + 32 ≤ 32; omega
  | ⟨3, _⟩ =>
    refine Fin.ext ((congrArg (· + d.val) (Host.clampedStart_of_le _ _ _ 0 (e.trans ?_) ?_)).trans (Nat.zero_add _))
    · rfl
    · show 0 + 64 ≤ 64; omega

/-- The heads brought forward. -/
theorem forward_at (y : Vec Ideal S2x512x32x64 .bf16) (b : Fin 2) (h : Fin 32) (j : Fin 512) (d : Fin 64) :
    transpose S2x32x512x64 [0, 2, 1, 3] y transposes_S2x512x32x64_S2x32x512x64_0_2_1_3 (ix4 b h j d) = y (ix4 b j h d) := by
  pointwise

theorem v15_eq (c : Dev nD) : V1 m c main_v15 = transpose S2x32x512x64 [0, 2, 1, 3]
    (Host.dynamicSlice S2x512x32x64 (m ((c : Thread nD τ).loc main_arg2) : Vec Ideal S8x512x32x64 .bf16)
      (fun k => (startsV c k (Shape.Idx.first h_S_)).toInt) sliceFits_S8x512x32x64_S2x512x32x64)
    transposes_S2x512x32x64_S2x32x512x64_0_2_1_3 := by
  unfold V1 hostOps0
  after_results_entrywise []
theorem v16_eq (c : Dev nD) : V1 m c main_v16 = transpose S2x32x512x64 [0, 2, 1, 3]
    (Host.dynamicSlice S2x512x32x64 (m ((c : Thread nD τ).loc main_arg3) : Vec Ideal S8x512x32x64 .bf16)
      (fun k => (startsV c k (Shape.Idx.first h_S_)).toInt) sliceFits_S8x512x32x64_S2x512x32x64)
    transposes_S2x512x32x64_S2x32x512x64_0_2_1_3 := by
  unfold V1 hostOps0
  after_results_entrywise []

theorem ins_k (c : Dev nD) (b : Fin 2) (h : Fin 32) (j : Fin 512) (d : Fin 64) :
    (ins m).k c (ix4 b h j d) = m ((c : Thread nD τ).loc main_arg2)
      (ix4 ⟨2 * c.val + b.val, by have := c.isLt; simp only [nD] at this; omega⟩ j h d) := by
  refine (congrFun (v15_eq m c) _).trans ?_
  exact (forward_at _ b h j d).trans (cut_at c _ b j h d)
theorem ins_v (c : Dev nD) (b : Fin 2) (h : Fin 32) (j : Fin 512) (d : Fin 64) :
    (ins m).v c (ix4 b h j d) = m ((c : Thread nD τ).loc main_arg3)
      (ix4 ⟨2 * c.val + b.val, by have := c.isLt; simp only [nD] at this; omega⟩ j h d) := by
  refine (congrFun (v16_eq m c) _).trans ?_
  exact (forward_at _ b h j d).trans (cut_at c _ b j h d)
theorem ins_x (c : Dev nD) : (ins m).x c = m ((c : Thread nD τ).loc main_arg0) := V1_of m c main_arg0 (by decide)
theorem ins_wq (c : Dev nD) : (ins m).wq c = m ((c : Thread nD τ).loc main_arg1) := V1_of m c main_arg1 (by decide)
theorem ins_wo (c : Dev nD) : (ins m).wo c = m ((c : Thread nD τ).loc main_arg4) := V1_of m c main_arg4 (by decide)

end Cert.Kernel.Gen
-- ==== Proof.Join.lean ====
module

public import proofs.«01_k».proof.Defs
public import proofs.«01_k».proof.Proof.Carry
public import proofs.«01_k».proof.Proof.Finite
public import proofs.«01_k».proof.Proof.Meet
public import proofs.«01_k».proof.Proof.Staged
public import Idealize.ShloMosaic.Lib.Layout

@[expose] public section

/-! # From each device's blocks to the block of the whole result -/

noncomputable section

namespace Cert.Value

open Idealize.ShloMosaic Idealize.ShloMosaic.TcCoe Cert.Kernel.Gen Cert.ReferenceIdeal.Value

/-- A block along the batches. -/
theorem block_batch {α : Type} (c : Dev Cert.Kernel.nD) (y : (⟨3, ![8, 512, 768]⟩ : Shape).Idx → α) (b : Fin 2) (i : Fin 512) (a : Fin 768) :
    (Layout.block ⟨3, ![2, 512, 768]⟩ ⟨3, ![8, 512, 768]⟩ 0 4 c y) (ix3 b i a) = y (ix3 (batchNo c b) i a) := by
  rw [Layout.block_apply]
  refine congrArg y (funext fun z => ?_)
  match z with
  | ⟨0, _⟩ => exact Fin.ext (by show c.val * 2 + b.val = 2 * c.val + b.val; omega)
  | ⟨1, _⟩ => rfl
  | ⟨2, _⟩ => rfl

/-- A block along the columns of the query weights. -/
theorem block_cols {α : Type} (c : Dev Cert.Kernel.nD) (y : (⟨2, ![768, 2048]⟩ : Shape).Idx → α) (a : Fin 768) (l : Fin 512) :
    (Layout.block ⟨2, ![768, 512]⟩ ⟨2, ![768, 2048]⟩ 1 4 c y) (ix2 a l) = y (ix2 a (shardNo c l)) := by
  rw [Layout.block_apply]
  refine congrArg y (funext fun z => ?_)
  match z with
  | ⟨0, _⟩ => rfl
  | ⟨1, _⟩ => exact Fin.ext (by show c.val * 512 + l.val = 512 * c.val + l.val; omega)

/-- A block along the rows of the output weights. -/
theorem block_rows {α : Type} (c : Dev Cert.Kernel.nD) (y : (⟨2, ![2048, 768]⟩ : Shape).Idx → α) (l : Fin 512) (o : Fin 768) :
    (Layout.block ⟨2, ![512, 768]⟩ ⟨2, ![2048, 768]⟩ 0 4 c y) (ix2 l o) = y (ix2 (shardNo c l) o) := by
  rw [Layout.block_apply]
  refine congrArg y (funext fun z => ?_)
  match z with
  | ⟨0, _⟩ => exact Fin.ext (by show c.val * 512 + l.val = 512 * c.val + l.val; omega)
  | ⟨1, _⟩ => rfl

variable {m : (ℓ : Loc Cert.Kernel.nD Cert.Kernel.τ Cert.Kernel.sig) → Buf (Elt Ideal) ℓ}
  {x : FVec Ideal Cert.ReferenceIdeal.S8x512x768 .bf16} {wq : FVec Ideal Cert.ReferenceIdeal.S768x2048 .bf16}
  {k v : FVec Ideal Cert.ReferenceIdeal.S8x512x32x64 .bf16} {wo : FVec Ideal Cert.ReferenceIdeal.S2048x768 .bf16}

/-- The arguments of every device are its blocks of the whole arrays, the keys and values the whole. -/
def Blocks (m : (ℓ : Loc Cert.Kernel.nD Cert.Kernel.τ Cert.Kernel.sig) → Buf (Elt Ideal) ℓ)
    (x : FVec Ideal Cert.ReferenceIdeal.S8x512x768 .bf16) (wq : FVec Ideal Cert.ReferenceIdeal.S768x2048 .bf16)
    (k v : FVec Ideal Cert.ReferenceIdeal.S8x512x32x64 .bf16) (wo : FVec Ideal Cert.ReferenceIdeal.S2048x768 .bf16) : Prop :=
  ∀ c : Dev Cert.Kernel.nD,
    m ((c : Thread Cert.Kernel.nD Cert.Kernel.τ).loc Cert.Kernel.main_arg0) = Layout.block ⟨3, ![2, 512, 768]⟩ ⟨3, ![8, 512, 768]⟩ 0 4 c x
    ∧ m ((c : Thread Cert.Kernel.nD Cert.Kernel.τ).loc Cert.Kernel.main_arg1) = Layout.block ⟨2, ![768, 512]⟩ ⟨2, ![768, 2048]⟩ 1 4 c wq
    ∧ m ((c : Thread Cert.Kernel.nD Cert.Kernel.τ).loc Cert.Kernel.main_arg2) = k
    ∧ m ((c : Thread Cert.Kernel.nD Cert.Kernel.τ).loc Cert.Kernel.main_arg3) = v
    ∧ m ((c : Thread Cert.Kernel.nD Cert.Kernel.τ).loc Cert.Kernel.main_arg4) = Layout.block ⟨2, ![512, 768]⟩ ⟨2, ![2048, 768]⟩ 0 4 c wo

/-- The windows then stage each device's part. -/
theorem part_of (h : Blocks m x wq k v wo) : PartOf (ins m) x wq k v wo where
  x c b i a := by rw [ins_x, (h c).1]; exact block_batch c x b i a
  wq c a l := by rw [ins_wq, (h c).2.1]; exact block_cols c wq a l
  k c b hd j d := by rw [ins_k, (h c).2.2.1]; rfl
  v c b hd j d := by rw [ins_v, (h c).2.2.2.1]; rfl
  wo c l o := by rw [ins_wo, (h c).2.2.2.2]; exact block_rows c wo l o

/-- Real blocks make real arrays. -/
theorem all_real (h : Blocks m x wq k v wo)
    (hf : ∀ c : Dev Cert.Kernel.nD,
      (∀ i, IsReal ((m ((c : Thread Cert.Kernel.nD Cert.Kernel.τ).loc Cert.Kernel.main_arg0) : FVec Ideal ⟨3, ![2, 512, 768]⟩ .bf16) i))
      ∧ (∀ i, IsReal ((m ((c : Thread Cert.Kernel.nD Cert.Kernel.τ).loc Cert.Kernel.main_arg1) : FVec Ideal ⟨2, ![768, 512]⟩ .bf16) i))
      ∧ ∀ i, IsReal ((m ((c : Thread Cert.Kernel.nD Cert.Kernel.τ).loc Cert.Kernel.main_arg2) : FVec Ideal ⟨4, ![8, 512, 32, 64]⟩ .bf16) i)) :
    AllReal x wq k where
  x b i a := by
    have hb := b.isLt
    let c : Dev Cert.Kernel.nD := ⟨b.val / 2, by show _ < 4; omega⟩
    have e := (hf c).1 (ix3 ⟨b.val % 2, by omega⟩ i a)
    rw [(h c).1] at e
    rw [block_batch c x ⟨b.val % 2, by omega⟩ i a] at e
    rwa [show batchNo c ⟨b.val % 2, by omega⟩ = b from
      Fin.ext (by show 2 * (b.val / 2) + b.val % 2 = b.val; omega)] at e
  wq a n := by
    have hn := n.isLt
    let c : Dev Cert.Kernel.nD := ⟨n.val / 512, by show _ < 4; omega⟩
    have e := (hf c).2.1 (ix2 a ⟨n.val % 512, by omega⟩)
    rw [(h c).2.1] at e
    rw [block_cols c wq a ⟨n.val % 512, by omega⟩] at e
    rwa [show shardNo c ⟨n.val % 512, by omega⟩ = n from
      Fin.ext (by show 512 * (n.val / 512) + n.val % 512 = n.val; omega)] at e
  k b j hd d := by
    have e := (hf 0).2.2 (ix4 b j hd d)
    rwa [(h 0).2.2.1] at e

/-- The kernel's result on device `c` is block `c` of the reference's. -/
theorem out_block (h : Blocks m x wq k v wo) (R : AllReal x wq k) (c : Dev Cert.Kernel.nD) :
    outV (ins m) c = Layout.block ⟨3, ![2, 512, 768]⟩ ⟨3, ![8, 512, 768]⟩ 0 4 c (resultV v wo (weightV (shiftedV (scoreV x wq k)))) := by
  refine funext fun (i : (⟨3, ![2, 512, 768]⟩ : Shape).Idx) => ?_
  rw [← ix3_eta i]
  exact (out_eq (part_of h) R c _ _ _).trans (block_batch c _ _ _ _).symm

end Cert.Value

namespace Cert.Proof

open Idealize.ShloMosaic Idealize.ShloMosaic.TcCoe Idealize.SL.Sem Cert.Value

/-- On finite activations, query weights and keys the ring computes, on each device, its block of the reference. -/
theorem algebraic : Cert.algebraic_KernelIdeal_ReferenceIdeal_pre_finite_KernelIdeal
    (hKernelIdeal := Cert.KernelIdeal.Gen.facts) (hReferenceIdeal := Cert.ReferenceIdeal.Gen.facts)
    (hPre_finite_KernelIdeal := Cert.Pre_finite_KernelIdeal.sides) := by
  intro m g m' g' hpre hin
  have hB := (hin : Blocks m _ _ _ _ _)
  have hR := all_real hB fun c =>
    @Cert.Pre_finite_KernelIdeal.real_of_finite Cert.Pre_finite_KernelIdeal.sides _ _ _ _ _ (hpre c)
  refine ⟨Cert.ReferenceIdeal.Value.res_main_v49 m' 0,
    (θ_run _ _ _).mono (fun r h c => ⟨(h.1 c).1.trans ?_, (h.1 c).2⟩) (Cert.Kernel.Gen.run_ideal Ideal m g),
    (θ_run _ _ _).mono (fun r h => h 0) (Cert.ReferenceIdeal.Value.run (F := Ideal) m' g')⟩
  rw [Cert.ReferenceIdeal.Value.res_eq]
  exact out_block hB hR c

end Cert.Proof
-- ==== Proof.lean ====
/- The claims of the certificate, each from its module: the kernel's run, the idealized kernel's, the reference's,
   and their values. -/
module

public import proofs.«01_k».proof.Defs
public import proofs.«01_k».proof.Proof.Join
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference program has no semaphores at all, so it ends with none raised. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-- The kernel's frame at the machine's floats. -/
theorem kernel_frame : Cert.quiescent_Kernel (hKernel := Cert.Kernel.Gen.facts) :=
  fun m g _ => (θ_run _ _ _).mono (fun _ h => ⟨fun c => (h.1 c).2, h.2⟩) (Cert.Kernel.Gen.run_main (F := Bits) m g)

/-- The idealized kernel's frame. -/
theorem ideal_frame : Cert.quiescent_KernelIdeal (hKernelIdeal := Cert.KernelIdeal.Gen.facts) :=
  fun m g _ => (θ_run _ _ _).mono (fun _ h => ⟨fun c => (h.1 c).2, h.2⟩) (Cert.Kernel.Gen.run_ideal Ideal m g)

/-- The same on finite arguments, which the frames do not need. -/
theorem reference_frame_finite : Cert.quiescent_ReferenceIdeal_pre_finite_ReferenceIdeal
    (hReferenceIdeal := Cert.ReferenceIdeal.Gen.facts) (hPre_finite_ReferenceIdeal := Cert.Pre_finite_ReferenceIdeal.sides) :=
  fun m g _ => reference_frame m g trivial

theorem ideal_frame_finite : Cert.quiescent_KernelIdeal_pre_finite_KernelIdeal
    (hKernelIdeal := Cert.KernelIdeal.Gen.facts) (hPre_finite_KernelIdeal := Cert.Pre_finite_KernelIdeal.sides) :=
  fun m g _ => ideal_frame m g trivial

theorem claim : Cert.Claim :=
  ⟨Cert.Kernel.Gen.facts, Cert.KernelIdeal.Gen.facts, Cert.ReferenceIdeal.Gen.facts,
    Cert.Pre_finite_KernelIdeal.sides, Cert.Pre_finite_ReferenceIdeal.sides,
    kernel_frame, ideal_frame, ideal_frame_finite, reference_frame, reference_frame_finite, trivial, algebraic⟩

end Cert.Proof

end
